-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_settled [hKernelIdeal : Cert.KernelIdeal.Facts] [hReferenceIdeal : Cert.ReferenceIdeal.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![64, 32768]⟩ : Shape).Idx, (Cert.On_settled.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![64, 32768]⟩ : Shape).Idx, (Cert.On_settled.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v94) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def holds_KernelIdeal_within_residual_pre_finite [hKernelIdeal : Cert.KernelIdeal.Facts] [hPre_finite : Cert.Pre_finite.Facts] [hPost_within_residual : Cert.Post_within_residual.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ (Cert.Post_within_residual.fn (F := Ideal) (m ((c.tc : Thread Cert.KernelIdeal.nD Cert.KernelIdeal.τ).loc Cert.KernelIdeal.main_arg0)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPost_within_residual : Cert.Post_within_residual.Facts) (hOn_settled : Cert.On_settled.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ preserves_Kernel_KernelIdeal
    ∧ algebraic_KernelIdeal_ReferenceIdeal_on_settled (hKernelIdeal := hKernelIdeal) (hReferenceIdeal := hReferenceIdeal) (hOn_settled := hOn_settled)
    ∧ holds_KernelIdeal_within_residual_pre_finite (hKernelIdeal := hKernelIdeal) (hPre_finite := hPre_finite) (hPost_within_residual := hPost_within_residual)
-- ==== On_settled.lean ====
abbrev S64x32768 : Shape := ⟨2, ![64, 32768]⟩
abbrev S_ : Shape := ⟨0, ![]⟩
abbrev S64 : Shape := ⟨1, ![64]⟩
abbrev S64x1 : Shape := ⟨2, ![64, 1]⟩

class Facts : Prop where
  reducesTo_S64x32768_S64_d1 : S64x32768.ReducesTo [1] S64
  h_S_ : 0 < S_.numel
  bcast_S64_S64x1_0 : S64.BroadcastsInDim S64x1 (![0] : Fin 1 → Fin S64x1.rank)
  bcast_S64x1_S64x32768_0_1 : S64x1.BroadcastsInDim S64x32768 (![0, 1] : Fin 2 → Fin S64x32768.rank)
  bcast_S_S64x32768 : S_.BroadcastsInDim S64x32768 (![] : Fin 0 → Fin S64x32768.rank)
  bcast_S_S64x1 : S_.BroadcastsInDim S64x1 (![] : Fin 0 → Fin S64x1.rank)

variable [Facts]

def fn_where {F : FTy → Type} [FloatOps F] (arg0 : IVec S64x32768 1) (arg1 : FVec F S_ .f32) (arg2 : FVec F S_ .f32) : FVec F S64x32768 .f32 :=
  let v0 : FVec F S64x32768 .f32 := broadcastInDim S64x32768 ![] bcast_S_S64x32768 arg1
  let v1 : FVec F S64x32768 .f32 := broadcastInDim S64x32768 ![] bcast_S_S64x32768 arg2
  let v2 : FVec F S64x32768 .f32 := select arg0 v0 v1
  v2

def fn_slope {F : FTy → Type} [FloatOps F] (arg0 : FVec F S64x32768 .f32) (arg1 : FVec F S64x1 .f32) : FVec F S64x1 .f32 :=
  let v0 : FVec F S64x32768 .f32 := broadcastInDim S64x32768 ![0, 1] bcast_S64x1_S64x32768_0_1 arg1
  let v1 : FVec F S64x32768 .f32 := subf arg0 v0
  let cst : FVec F S_ .f32 := constant S_ .f32 0x00000000#32
  let v2 : FVec F S64x32768 .f32 := broadcastInDim S64x32768 ![] bcast_S_S64x32768 cst
  let v3 : FVec F S64x32768 .f32 := maximumf v1 v2
  let cst_0 : FVec F S_ .f32 := constant S_ .f32 0x00000000#32
  let v4 : FVec F S64 .f32 := (fun x v => Host.reduceAdd x v reducesTo_S64x32768_S64_d1 h_S_) v3 cst_0
  let v5 : FVec F S64x1 .f32 := broadcastInDim S64x1 ![0] bcast_S64_S64x1_0 v4
  v5

def fn_mass {F : FTy → Type} [FloatOps F] (arg0 : FVec F S64x32768 .f32) (arg1 : FVec F S64x1 .f32) : FVec F S64x1 .f32 :=
  let v0 : FVec F S64x32768 .f32 := broadcastInDim S64x32768 ![0, 1] bcast_S64x1_S64x32768_0_1 arg1
  let v1 : FVec F S64x32768 .f32 := subf arg0 v0
  let cst : FVec F S_ .f32 := constant S_ .f32 0x00000000#32
  let v2 : FVec F S64x32768 .f32 := broadcastInDim S64x32768 ![] bcast_S_S64x32768 cst
  let v3 : FVec F S64x32768 .f32 := maximumf v1 v2
  let v4 : FVec F S64x32768 .f32 := mulf v3 v3
  let cst_0 : FVec F S_ .f32 := constant S_ .f32 0x00000000#32
  let v5 : FVec F S64 .f32 := (fun x v => Host.reduceAdd x v reducesTo_S64x32768_S64_d1 h_S_) v4 cst_0
  let v6 : FVec F S64x1 .f32 := broadcastInDim S64x1 ![0] bcast_S64_S64x1_0 v5
  v6

def fn_where_0 {F : FTy → Type} [FloatOps F] (arg0 : IVec S64x1 1) (arg1 : FVec F S_ .f32) (arg2 : FVec F S64x1 .f32) : FVec F S64x1 .f32 :=
  let v0 : FVec F S_ .f32 := id arg1
  let v1 : FVec F S64x1 .f32 := broadcastInDim S64x1 ![] bcast_S_S64x1 v0
  let v2 : FVec F S64x1 .f32 := select arg0 v1 arg2
  v2

def fn_where_1 {F : FTy → Type} [FloatOps F] (arg0 : IVec S64x1 1) (arg1 : FVec F S64x1 .f32) (arg2 : FVec F S64x1 .f32) : FVec F S64x1 .f32 :=
  let v0 : FVec F S64x1 .f32 := select arg0 arg1 arg2
  v0

def fn_step_part2 {F : FTy → Type} [FloatOps F] (arg1 : FVec F S64x1 .f32) (v1 : FVec F S64x1 .f32) (v14 : FVec F S64x1 .f32) (v17 : FVec F S64x1 .f32) (v20 : FVec F S64x1 .f32) (v33 : FVec F S64x1 .f32) (v35 : IVec S64x1 1) (v36 : FVec F S64x1 .f32) : FVec F S64x1 .f32 × FVec F S64x1 .f32 × FVec F S64x1 .f32 × FVec F S64x1 .f32 × FVec F S64x1 .f32 × FVec F S64x1 .f32 :=
  let v37 : IVec S64x1 1 := cmpf .ogt v14 v36
  let v38 : IVec S64x1 1 := andi v35 v37
  let v39 : IVec S64x1 1 := cmpf .oge v33 v17
  let v40 : IVec S64x1 1 := andi v38 v39
  let v41 : IVec S64x1 1 := cmpf .ole v33 v20
  let v42 : IVec S64x1 1 := andi v40 v41
  let v43 : FVec F S64x1 .f32 := addf v17 v20
  let cst_10 : FVec F S_ .f32 := constant S_ .f32 0x3F000000#32
  let v44 : FVec F S64x1 .f32 := broadcastInDim S64x1 ![] bcast_S_S64x1 cst_10
  let v45 : FVec F S64x1 .f32 := mulf v43 v44
  let v46 : FVec F S64x1 .f32 := fn_where_1 (F := F) v42 v33 v45
  (v46, arg1, v1, v14, v17, v20)

def fn_step_part1 {F : FTy → Type} [FloatOps F] (arg1 : FVec F S64x1 .f32) (arg6 : FVec F S64x1 .f32) (v0 : FVec F S64x1 .f32) (v1 : FVec F S64x1 .f32) (v14 : FVec F S64x1 .f32) (v17 : FVec F S64x1 .f32) (cst_4 : FVec F S_ .f32) : FVec F S64x1 .f32 × FVec F S64x1 .f32 × FVec F S64x1 .f32 × FVec F S64x1 .f32 × FVec F S64x1 .f32 × FVec F S64x1 .f32 :=
  let v18 : FVec F S64x1 .f32 := broadcastInDim S64x1 ![] bcast_S_S64x1 cst_4
  let v19 : IVec S64x1 1 := cmpf .oge v0 v18
  let v20 : FVec F S64x1 .f32 := fn_where_1 (F := F) v19 arg6 arg1
  let v21 : FVec F S64x1 .f32 := mulf v1 v1
  let cst_5 : FVec F S_ .f32 := constant S_ .f32 0x3F800000#32
  let v22 : FVec F S64x1 .f32 := broadcastInDim S64x1 ![] bcast_S_S64x1 cst_5
  let v23 : FVec F S64x1 .f32 := subf v0 v22
  let v24 : FVec F S64x1 .f32 := mulf v14 v23
  let v25 : FVec F S64x1 .f32 := subf v21 v24
  let cst_6 : FVec F S_ .f32 := constant S_ .f32 0x00000000#32
  let v26 : FVec F S64x1 .f32 := broadcastInDim S64x1 ![] bcast_S_S64x1 cst_6
  let v27 : FVec F S64x1 .f32 := maximumf v25 v26
  let v28 : FVec F S64x1 .f32 := Host.sqrt v27
  let v29 : FVec F S64x1 .f32 := subf v1 v28
  let cst_7 : FVec F S_ .f32 := constant S_ .f32 0x3F800000#32
  let v30 : FVec F S64x1 .f32 := broadcastInDim S64x1 ![] bcast_S_S64x1 cst_7
  let v31 : FVec F S64x1 .f32 := maximumf v14 v30
  let v32 : FVec F S64x1 .f32 := Host.divf v29 v31
  let v33 : FVec F S64x1 .f32 := addf arg1 v32
  let cst_8 : FVec F S_ .f32 := constant S_ .f32 0x00000000#32
  let v34 : FVec F S64x1 .f32 := broadcastInDim S64x1 ![] bcast_S_S64x1 cst_8
  let v35 : IVec S64x1 1 := cmpf .oge v25 v34
  let cst_9 : FVec F S_ .f32 := constant S_ .f32 0x00000000#32
  let v36 : FVec F S64x1 .f32 := broadcastInDim S64x1 ![] bcast_S_S64x1 cst_9
  fn_step_part2 (F := F) arg1 v1 v14 v17 v20 v33 v35 v36

def fn_step {F : FTy → Type} [FloatOps F] (arg0 : FVec F S64x32768 .f32) (arg1 : FVec F S64x1 .f32) (arg2 : FVec F S64x1 .f32) (arg3 : FVec F S64x1 .f32) (arg4 : FVec F S64x1 .f32) (arg5 : FVec F S64x1 .f32) (arg6 : FVec F S64x1 .f32) : FVec F S64x1 .f32 × FVec F S64x1 .f32 × FVec F S64x1 .f32 × FVec F S64x1 .f32 × FVec F S64x1 .f32 × FVec F S64x1 .f32 :=
  let v0 : FVec F S64x1 .f32 := fn_mass (F := F) arg0 arg1
  let v1 : FVec F S64x1 .f32 := fn_slope (F := F) arg0 arg1
  let v2 : FVec F S64x1 .f32 := subf arg1 arg2
  let v3 : FVec F S64x1 .f32 := subf arg3 v1
  let cst : FVec F S_ .f32 := constant S_ .f32 0x00000000#32
  let v4 : FVec F S64x1 .f32 := broadcastInDim S64x1 ![] bcast_S_S64x1 cst
  let v5 : IVec S64x1 1 := cmpf .oeq v2 v4
  let cst_0 : FVec F S_ .f32 := constant S_ .f32 0x3F800000#32
  let v6 : FVec F S64x1 .f32 := fn_where_0 (F := F) v5 cst_0 v2
  let v7 : FVec F S64x1 .f32 := Host.divf v3 v6
  let v8 : FVec F S64x1 .f32 := Host.absf v2
  let cst_1 : FVec F S_ .f32 := constant S_ .f32 0x37FBA882#32
  let v9 : FVec F S64x1 .f32 := broadcastInDim S64x1 ![] bcast_S_S64x1 cst_1
  let v10 : IVec S64x1 1 := cmpf .oge v8 v9
  let cst_2 : FVec F S_ .f32 := constant S_ .f32 0x00000000#32
  let v11 : FVec F S64x1 .f32 := broadcastInDim S64x1 ![] bcast_S_S64x1 cst_2
  let v12 : IVec S64x1 1 := cmpf .ogt v7 v11
  let v13 : IVec S64x1 1 := andi v10 v12
  let v14 : FVec F S64x1 .f32 := fn_where_1 (F := F) v13 v7 arg4
  let cst_3 : FVec F S_ .f32 := constant S_ .f32 0x3F800000#32
  let v15 : FVec F S64x1 .f32 := broadcastInDim S64x1 ![] bcast_S_S64x1 cst_3
  let v16 : IVec S64x1 1 := cmpf .oge v0 v15
  let v17 : FVec F S64x1 .f32 := fn_where_1 (F := F) v16 arg1 arg5
  let cst_4 : FVec F S_ .f32 := constant S_ .f32 0x3F800000#32
  fn_step_part1 (F := F) arg1 arg6 v0 v1 v14 v17 cst_4

def fn_part3 {F : FTy → Type} [FloatOps F] (main_arg0 : FVec F S64x32768 .f32) (main_v5 : FVec F S64x32768 .f32) (main_v25_0 : FVec F S64x1 .f32) (main_v25_1 : FVec F S64x1 .f32) (main_v25_2 : FVec F S64x1 .f32) (main_v25_3 : FVec F S64x1 .f32) (main_v25_4 : FVec F S64x1 .f32) (main_v25_5 : FVec F S64x1 .f32) (main_v26_0 : FVec F S64x1 .f32) : IVec S64x32768 1 :=
  let main_v26_1 : FVec F S64x1 .f32 := (fn_step (F := F) main_v5 main_v25_0 main_v25_1 main_v25_2 main_v25_3 main_v25_4 main_v25_5).2.1
  let main_v26_2 : FVec F S64x1 .f32 := (fn_step (F := F) main_v5 main_v25_0 main_v25_1 main_v25_2 main_v25_3 main_v25_4 main_v25_5).2.2.1
  let main_v26_3 : FVec F S64x1 .f32 := (fn_step (F := F) main_v5 main_v25_0 main_v25_1 main_v25_2 main_v25_3 main_v25_4 main_v25_5).2.2.2.1
  let main_v26_4 : FVec F S64x1 .f32 := (fn_step (F := F) main_v5 main_v25_0 main_v25_1 main_v25_2 main_v25_3 main_v25_4 main_v25_5).2.2.2.2.1
  let main_v26_5 : FVec F S64x1 .f32 := (fn_step (F := F) main_v5 main_v25_0 main_v25_1 main_v25_2 main_v25_3 main_v25_4 main_v25_5).2.2.2.2.2
  let main_v27 : FVec F S64x32768 .f32 := Host.absf main_arg0
  let main_cst_9 : FVec F S_ .f32 := constant S_ .f32 0x7F800000#32
  let main_v28 : FVec F S64x32768 .f32 := broadcastInDim S64x32768 ![] bcast_S_S64x32768 main_cst_9
  let main_v29 : IVec S64x32768 1 := cmpf .olt main_v27 main_v28
  let main_c : IVec S_ 1 := constantI S_ 1 1#1
  let main_v30 : IVec S64 1 := (fun x v => Host.reduce IntOp.andi x v reducesTo_S64x32768_S64_d1 h_S_) main_v29 main_c
  let main_v31 : IVec S64x1 1 := broadcastInDim S64x1 ![0] bcast_S64_S64x1_0 main_v30
  let main_v32 : FVec F S64x1 .f32 := fn_mass (F := F) main_v5 main_v26_0
  let main_cst_10 : FVec F S_ .f32 := constant S_ .f32 0x3F800000#32
  let main_v33 : FVec F S64x1 .f32 := broadcastInDim S64x1 ![] bcast_S_S64x1 main_cst_10
  let main_v34 : IVec S64x1 1 := cmpf .oeq main_v32 main_v33
  let main_v35 : IVec S64x1 1 := andi main_v31 main_v34
  let main_v36 : IVec S64x32768 1 := broadcastInDim S64x32768 ![0, 1] bcast_S64x1_S64x32768_0_1 main_v35
  main_v36

def fn_part2 {F : FTy → Type} [FloatOps F] (main_arg0 : FVec F S64x32768 .f32) (main_v5 : FVec F S64x32768 .f32) (main_v21_0 : FVec F S64x1 .f32) (main_v21_1 : FVec F S64x1 .f32) (main_v21_2 : FVec F S64x1 .f32) (main_v21_3 : FVec F S64x1 .f32) (main_v21_4 : FVec F S64x1 .f32) (main_v21_5 : FVec F S64x1 .f32) (main_v22_0 : FVec F S64x1 .f32) : IVec S64x32768 1 :=
  let main_v22_1 : FVec F S64x1 .f32 := (fn_step (F := F) main_v5 main_v21_0 main_v21_1 main_v21_2 main_v21_3 main_v21_4 main_v21_5).2.1
  let main_v22_2 : FVec F S64x1 .f32 := (fn_step (F := F) main_v5 main_v21_0 main_v21_1 main_v21_2 main_v21_3 main_v21_4 main_v21_5).2.2.1
  let main_v22_3 : FVec F S64x1 .f32 := (fn_step (F := F) main_v5 main_v21_0 main_v21_1 main_v21_2 main_v21_3 main_v21_4 main_v21_5).2.2.2.1
  let main_v22_4 : FVec F S64x1 .f32 := (fn_step (F := F) main_v5 main_v21_0 main_v21_1 main_v21_2 main_v21_3 main_v21_4 main_v21_5).2.2.2.2.1
  let main_v22_5 : FVec F S64x1 .f32 := (fn_step (F := F) main_v5 main_v21_0 main_v21_1 main_v21_2 main_v21_3 main_v21_4 main_v21_5).2.2.2.2.2
  let main_v23_0 : FVec F S64x1 .f32 := (fn_step (F := F) main_v5 main_v22_0 main_v22_1 main_v22_2 main_v22_3 main_v22_4 main_v22_5).1
  let main_v23_1 : FVec F S64x1 .f32 := (fn_step (F := F) main_v5 main_v22_0 main_v22_1 main_v22_2 main_v22_3 main_v22_4 main_v22_5).2.1
  let main_v23_2 : FVec F S64x1 .f32 := (fn_step (F := F) main_v5 main_v22_0 main_v22_1 main_v22_2 main_v22_3 main_v22_4 main_v22_5).2.2.1
  let main_v23_3 : FVec F S64x1 .f32 := (fn_step (F := F) main_v5 main_v22_0 main_v22_1 main_v22_2 main_v22_3 main_v22_4 main_v22_5).2.2.2.1
  let main_v23_4 : FVec F S64x1 .f32 := (fn_step (F := F) main_v5 main_v22_0 main_v22_1 main_v22_2 main_v22_3 main_v22_4 main_v22_5).2.2.2.2.1
  let main_v23_5 : FVec F S64x1 .f32 := (fn_step (F := F) main_v5 main_v22_0 main_v22_1 main_v22_2 main_v22_3 main_v22_4 main_v22_5).2.2.2.2.2
  let main_v24_0 : FVec F S64x1 .f32 := (fn_step (F := F) main_v5 main_v23_0 main_v23_1 main_v23_2 main_v23_3 main_v23_4 main_v23_5).1
  let main_v24_1 : FVec F S64x1 .f32 := (fn_step (F := F) main_v5 main_v23_0 main_v23_1 main_v23_2 main_v23_3 main_v23_4 main_v23_5).2.1
  let main_v24_2 : FVec F S64x1 .f32 := (fn_step (F := F) main_v5 main_v23_0 main_v23_1 main_v23_2 main_v23_3 main_v23_4 main_v23_5).2.2.1
  let main_v24_3 : FVec F S64x1 .f32 := (fn_step (F := F) main_v5 main_v23_0 main_v23_1 main_v23_2 main_v23_3 main_v23_4 main_v23_5).2.2.2.1
  let main_v24_4 : FVec F S64x1 .f32 := (fn_step (F := F) main_v5 main_v23_0 main_v23_1 main_v23_2 main_v23_3 main_v23_4 main_v23_5).2.2.2.2.1
  let main_v24_5 : FVec F S64x1 .f32 := (fn_step (F := F) main_v5 main_v23_0 main_v23_1 main_v23_2 main_v23_3 main_v23_4 main_v23_5).2.2.2.2.2
  let main_v25_0 : FVec F S64x1 .f32 := (fn_step (F := F) main_v5 main_v24_0 main_v24_1 main_v24_2 main_v24_3 main_v24_4 main_v24_5).1
  let main_v25_1 : FVec F S64x1 .f32 := (fn_step (F := F) main_v5 main_v24_0 main_v24_1 main_v24_2 main_v24_3 main_v24_4 main_v24_5).2.1
  let main_v25_2 : FVec F S64x1 .f32 := (fn_step (F := F) main_v5 main_v24_0 main_v24_1 main_v24_2 main_v24_3 main_v24_4 main_v24_5).2.2.1
  let main_v25_3 : FVec F S64x1 .f32 := (fn_step (F := F) main_v5 main_v24_0 main_v24_1 main_v24_2 main_v24_3 main_v24_4 main_v24_5).2.2.2.1
  let main_v25_4 : FVec F S64x1 .f32 := (fn_step (F := F) main_v5 main_v24_0 main_v24_1 main_v24_2 main_v24_3 main_v24_4 main_v24_5).2.2.2.2.1
  let main_v25_5 : FVec F S64x1 .f32 := (fn_step (F := F) main_v5 main_v24_0 main_v24_1 main_v24_2 main_v24_3 main_v24_4 main_v24_5).2.2.2.2.2
  let main_v26_0 : FVec F S64x1 .f32 := (fn_step (F := F) main_v5 main_v25_0 main_v25_1 main_v25_2 main_v25_3 main_v25_4 main_v25_5).1
  fn_part3 (F := F) main_arg0 main_v5 main_v25_0 main_v25_1 main_v25_2 main_v25_3 main_v25_4 main_v25_5 main_v26_0

def fn_part1 {F : FTy → Type} [FloatOps F] (main_arg0 : FVec F S64x32768 .f32) (main_v5 : FVec F S64x32768 .f32) (main_v6 : FVec F S64x1 .f32) (main_v7 : FVec F S64x1 .f32) (main_v14 : FVec F S64x32768 .f32) : IVec S64x32768 1 :=
  let main_v15 : FVec F S64x32768 .f32 := id main_v14
  let main_cst_8 : FVec F S_ .f32 := constant S_ .f32 0x00000000#32
  let main_v16 : FVec F S64 .f32 := (fun x v => Host.reduceAdd x v reducesTo_S64x32768_S64_d1 h_S_) main_v15 main_cst_8
  let main_v17 : FVec F S64x1 .f32 := broadcastInDim S64x1 ![0] bcast_S64_S64x1_0 main_v16
  let main_v18 : FVec F S64x1 .f32 := fn_slope (F := F) main_v5 main_v6
  let main_v19_0 : FVec F S64x1 .f32 := (fn_step (F := F) main_v5 main_v6 main_v6 main_v18 main_v17 main_v6 main_v7).1
  let main_v19_1 : FVec F S64x1 .f32 := (fn_step (F := F) main_v5 main_v6 main_v6 main_v18 main_v17 main_v6 main_v7).2.1
  let main_v19_2 : FVec F S64x1 .f32 := (fn_step (F := F) main_v5 main_v6 main_v6 main_v18 main_v17 main_v6 main_v7).2.2.1
  let main_v19_3 : FVec F S64x1 .f32 := (fn_step (F := F) main_v5 main_v6 main_v6 main_v18 main_v17 main_v6 main_v7).2.2.2.1
  let main_v19_4 : FVec F S64x1 .f32 := (fn_step (F := F) main_v5 main_v6 main_v6 main_v18 main_v17 main_v6 main_v7).2.2.2.2.1
  let main_v19_5 : FVec F S64x1 .f32 := (fn_step (F := F) main_v5 main_v6 main_v6 main_v18 main_v17 main_v6 main_v7).2.2.2.2.2
  let main_v20_0 : FVec F S64x1 .f32 := (fn_step (F := F) main_v5 main_v19_0 main_v19_1 main_v19_2 main_v19_3 main_v19_4 main_v19_5).1
  let main_v20_1 : FVec F S64x1 .f32 := (fn_step (F := F) main_v5 main_v19_0 main_v19_1 main_v19_2 main_v19_3 main_v19_4 main_v19_5).2.1
  let main_v20_2 : FVec F S64x1 .f32 := (fn_step (F := F) main_v5 main_v19_0 main_v19_1 main_v19_2 main_v19_3 main_v19_4 main_v19_5).2.2.1
  let main_v20_3 : FVec F S64x1 .f32 := (fn_step (F := F) main_v5 main_v19_0 main_v19_1 main_v19_2 main_v19_3 main_v19_4 main_v19_5).2.2.2.1
  let main_v20_4 : FVec F S64x1 .f32 := (fn_step (F := F) main_v5 main_v19_0 main_v19_1 main_v19_2 main_v19_3 main_v19_4 main_v19_5).2.2.2.2.1
  let main_v20_5 : FVec F S64x1 .f32 := (fn_step (F := F) main_v5 main_v19_0 main_v19_1 main_v19_2 main_v19_3 main_v19_4 main_v19_5).2.2.2.2.2
  let main_v21_0 : FVec F S64x1 .f32 := (fn_step (F := F) main_v5 main_v20_0 main_v20_1 main_v20_2 main_v20_3 main_v20_4 main_v20_5).1
  let main_v21_1 : FVec F S64x1 .f32 := (fn_step (F := F) main_v5 main_v20_0 main_v20_1 main_v20_2 main_v20_3 main_v20_4 main_v20_5).2.1
  let main_v21_2 : FVec F S64x1 .f32 := (fn_step (F := F) main_v5 main_v20_0 main_v20_1 main_v20_2 main_v20_3 main_v20_4 main_v20_5).2.2.1
  let main_v21_3 : FVec F S64x1 .f32 := (fn_step (F := F) main_v5 main_v20_0 main_v20_1 main_v20_2 main_v20_3 main_v20_4 main_v20_5).2.2.2.1
  let main_v21_4 : FVec F S64x1 .f32 := (fn_step (F := F) main_v5 main_v20_0 main_v20_1 main_v20_2 main_v20_3 main_v20_4 main_v20_5).2.2.2.2.1
  let main_v21_5 : FVec F S64x1 .f32 := (fn_step (F := F) main_v5 main_v20_0 main_v20_1 main_v20_2 main_v20_3 main_v20_4 main_v20_5).2.2.2.2.2
  let main_v22_0 : FVec F S64x1 .f32 := (fn_step (F := F) main_v5 main_v21_0 main_v21_1 main_v21_2 main_v21_3 main_v21_4 main_v21_5).1
  fn_part2 (F := F) main_arg0 main_v5 main_v21_0 main_v21_1 main_v21_2 main_v21_3 main_v21_4 main_v21_5 main_v22_0

def fn {F : FTy → Type} [FloatOps F] (main_arg0 : FVec F S64x32768 .f32) : IVec S64x32768 1 :=
  let main_cst : FVec F S_ .f32 := constant S_ .f32 0xFF800000#32
  let main_v0 : FVec F S64 .f32 := (fun x v => Host.reduce FloatOps.maximumf x v reducesTo_S64x32768_S64_d1 h_S_) main_arg0 main_cst
  let main_v1 : FVec F S64x1 .f32 := broadcastInDim S64x1 ![0] bcast_S64_S64x1_0 main_v0
  let main_v2 : FVec F S64x32768 .f32 := broadcastInDim S64x32768 ![0, 1] bcast_S64x1_S64x32768_0_1 main_v1
  let main_v3 : FVec F S64x32768 .f32 := subf main_arg0 main_v2
  let main_cst_0 : FVec F S_ .f32 := constant S_ .f32 0x3F000000#32
  let main_v4 : FVec F S64x32768 .f32 := broadcastInDim S64x32768 ![] bcast_S_S64x32768 main_cst_0
  let main_v5 : FVec F S64x32768 .f32 := mulf main_v3 main_v4
  let main_cst_1 : FVec F S_ .f32 := constant S_ .f32 0xBF800000#32
  let main_v6 : FVec F S64x1 .f32 := broadcastInDim S64x1 ![] bcast_S_S64x1 main_cst_1
  let main_cst_2 : FVec F S_ .f32 := constant S_ .f32 0x00000000#32
  let main_v7 : FVec F S64x1 .f32 := broadcastInDim S64x1 ![] bcast_S_S64x1 main_cst_2
  let main_cst_3 : FVec F S_ .f32 := constant S_ .f32 0x3F800000#32
  let main_v8 : FVec F S64x32768 .f32 := broadcastInDim S64x32768 ![] bcast_S_S64x32768 main_cst_3
  let main_v9 : FVec F S64x32768 .f32 := addf main_v5 main_v8
  let main_cst_4 : FVec F S_ .f32 := constant S_ .f32 0x00000000#32
  let main_v10 : FVec F S64x32768 .f32 := broadcastInDim S64x32768 ![] bcast_S_S64x32768 main_cst_4
  let main_v11 : FVec F S64x32768 .f32 := maximumf main_v9 main_v10
  let main_cst_5 : FVec F S_ .f32 := constant S_ .f32 0x00000000#32
  let main_v12 : FVec F S64x32768 .f32 := broadcastInDim S64x32768 ![] bcast_S_S64x32768 main_cst_5
  let main_v13 : IVec S64x32768 1 := cmpf .ogt main_v11 main_v12
  let main_cst_6 : FVec F S_ .f32 := constant S_ .f32 0x3F800000#32
  let main_cst_7 : FVec F S_ .f32 := constant S_ .f32 0x00000000#32
  let main_v14 : FVec F S64x32768 .f32 := fn_where (F := F) main_v13 main_cst_6 main_cst_7
  fn_part1 (F := F) main_arg0 main_v5 main_v6 main_v7 main_v14
-- ==== Post_within_residual.lean ====
abbrev S64x32768 : Shape := ⟨2, ![64, 32768]⟩
abbrev S_ : Shape := ⟨0, ![]⟩
abbrev S64 : Shape := ⟨1, ![64]⟩
abbrev S64x1 : Shape := ⟨2, ![64, 1]⟩
abbrev S64x100 : Shape := ⟨2, ![64, 100]⟩
abbrev S100 : Shape := ⟨1, ![100]⟩
abbrev S1x100 : Shape := ⟨2, ![1, 100]⟩
abbrev S64x1x1 : Shape := ⟨3, ![64, 1, 1]⟩
abbrev S1 : Shape := ⟨1, ![1]⟩
abbrev S1x1x1 : Shape := ⟨3, ![1, 1, 1]⟩
abbrev S32768 : Shape := ⟨1, ![32768]⟩
abbrev S1x32768 : Shape := ⟨2, ![1, 32768]⟩

class Facts : Prop where
  reducesTo_S64x32768_S64_d1 : S64x32768.ReducesTo [1] S64
  h_S_ : 0 < S_.numel
  bcast_S64_S64x1_0 : S64.BroadcastsInDim S64x1 (![0] : Fin 1 → Fin S64x1.rank)
  bcast_S64x1_S64x32768_0_1 : S64x1.BroadcastsInDim S64x32768 (![0, 1] : Fin 2 → Fin S64x32768.rank)
  bcast_S_S64x32768 : S_.BroadcastsInDim S64x32768 (![] : Fin 0 → Fin S64x32768.rank)
  sliceFits_S64x32768_S64x100 : S64x32768.Slices (fun _ => 0) S64x100
  bcast_S_S100 : S_.BroadcastsInDim S100 (![] : Fin 0 → Fin S100.rank)
  bcast_S_S_ : S_.BroadcastsInDim S_ (![] : Fin 0 → Fin S_.rank)
  reduceWindows_S64x100_S64x100_w1s1p0_0_w100s1p99_0 : S64x100.ReduceWindows (![1, 100] : Fin 2 → Nat) ![1, 1] ![0, 99] ![0, 0] S64x100
  bcast_S100_S1x100_1 : S100.BroadcastsInDim S1x100 (![1] : Fin 1 → Fin S1x100.rank)
  bcast_S1x100_S64x100_0_1 : S1x100.BroadcastsInDim S64x100 (![0, 1] : Fin 2 → Fin S64x100.rank)
  bcast_S_S64x100 : S_.BroadcastsInDim S64x100 (![] : Fin 0 → Fin S64x100.rank)
  natLt_1_32 : 1 < 32
  reducesTo_S64x100_S64_d1 : S64x100.ReducesTo [1] S64
  bcast_S_S64x1 : S_.BroadcastsInDim S64x1 (![] : Fin 0 → Fin S64x1.rank)
  shapeCasts_S64x1_S64x1x1 : S64x1.ShapeCasts S64x1x1
  bcast_S_S64x1x1 : S_.BroadcastsInDim S64x1x1 (![] : Fin 0 → Fin S64x1x1.rank)
  bcast_S1_S1x1x1_2 : S1.BroadcastsInDim S1x1x1 (![2] : Fin 1 → Fin S1x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  bcast_S_S32768 : S_.BroadcastsInDim S32768 (![] : Fin 0 → Fin S32768.rank)
  reduceWindows_S64x32768_S64x32768_w1s1p0_0_w32768s1p32767_0 : S64x32768.ReduceWindows (![1, 32768] : Fin 2 → Nat) ![1, 1] ![0, 32767] ![0, 0] S64x32768
  bcast_S32768_S1x32768_1 : S32768.BroadcastsInDim S1x32768 (![1] : Fin 1 → Fin S1x32768.rank)
  bcast_S1x32768_S64x32768_0_1 : S1x32768.BroadcastsInDim S64x32768 (![0, 1] : Fin 2 → Fin S64x32768.rank)
  gather_S64x100_S64x1x1_S64x1_n_1_0_0_1_2_11_wf : GatherDims.WF S64x100 S64x1x1 S64x1 [] [1] [0] [1] [0] 2 ![1, 1]
  gather_S64x32768_S64x1x1_S64x1_n_1_0_0_1_2_11_wf : GatherDims.WF S64x32768 S64x1x1 S64x1 [] [1] [0] [1] [0] 2 ![1, 1]

variable [Facts]

variable {F : FTy → Type} [FloatOps F]
def gather_S64x100_S64x1x1_S64x1_n_1_0_0_1_2_11 : GatherDims S64x100 S64x1x1 S64x1 where
  offsetDims := []
  collapsedSliceDims := [1]
  operandBatchingDims := [0]
  startIndicesBatchingDims := [0]
  startIndexMap := [1]
  indexVectorDim := 2
  sliceSizes := ![1, 1]
  wf := gather_S64x100_S64x1x1_S64x1_n_1_0_0_1_2_11_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def gather_S64x32768_S64x1x1_S64x1_n_1_0_0_1_2_11 : GatherDims S64x32768 S64x1x1 S64x1 where
  offsetDims := []
  collapsedSliceDims := [1]
  operandBatchingDims := [0]
  startIndicesBatchingDims := [0]
  startIndexMap := [1]
  indexVectorDim := 2
  sliceSizes := ![1, 1]
  wf := gather_S64x32768_S64x1x1_S64x1_n_1_0_0_1_2_11_wf

def fn_cumsum_0 {F : FTy → Type} [FloatOps F] (arg0 : FVec F S64x100 .f32) : FVec F S64x100 .f32 :=
  let cst : FVec F S_ .f32 := constant S_ .f32 0x00000000#32
  let v0 : FVec F S_ .f32 := broadcastInDim S_ ![] bcast_S_S_ cst
  let v1 : FVec F S64x100 .f32 := (fun x v => Host.reduceWindowAdd ![1, 100] ![1, 1] ![0, 99] ![0, 0] x v reduceWindows_S64x100_S64x100_w1s1p0_0_w100s1p99_0 h_S_) arg0 v0
  v1

def fn_cumsum {F : FTy → Type} [FloatOps F] (arg0 : FVec F S64x100 .f32) : FVec F S64x100 .f32 :=
  let v0 : FVec F S64x100 .f32 := fn_cumsum_0 (F := F) arg0
  v0

def fn_where {F : FTy → Type} [FloatOps F] (arg0 : IVec S64x100 1) (arg1 : FVec F S64x100 .f32) (arg2 : FVec F S_ .f32) : FVec F S64x100 .f32 :=
  let v0 : FVec F S_ .f32 := id arg2
  let v1 : FVec F S64x100 .f32 := broadcastInDim S64x100 ![] bcast_S_S64x100 v0
  let v2 : FVec F S64x100 .f32 := select arg0 arg1 v1
  v2

def fn_take_along_axis {F : FTy → Type} [FloatOps F] (arg0 : FVec F S64x100 .f32) (arg1 : IVec S64x1 32) : FVec F S64x1 .f32 :=
  let c : IVec S_ 32 := constantI S_ 32 0#32
  let v0 : IVec S64x1 32 := broadcastInDim S64x1 ![] bcast_S_S64x1 c
  let v1 : IVec S64x1 1 := cmpi .slt arg1 v0
  let c_0 : IVec S_ 32 := constantI S_ 32 100#32
  let v2 : IVec S64x1 32 := broadcastInDim S64x1 ![] bcast_S_S64x1 c_0
  let v3 : IVec S64x1 32 := addi arg1 v2
  let v4 : IVec S64x1 32 := select v1 v3 arg1
  let v5 : IVec S64x1x1 32 := shapeCast S64x1x1 v4 shapeCasts_S64x1_S64x1x1
  let c_1 : IVec S1 32 := constantI S1 32 99#32
  let c_2 : IVec S_ 32 := constantI S_ 32 0#32
  let v6 : IVec S64x1x1 32 := broadcastInDim S64x1x1 ![] bcast_S_S64x1x1 c_2
  let v7 : IVec S64x1x1 1 := cmpi .sge v5 v6
  let v8 : IVec S1x1x1 32 := broadcastInDim S1x1x1 ![2] bcast_S1_S1x1x1_2 c_1
  let v9 : IVec S64x1x1 32 := broadcastInDim S64x1x1 ![0, 1, 2] bcast_S1x1x1_S64x1x1_0_1_2 v8
  let v10 : IVec S64x1x1 1 := cmpi .sle v5 v9
  let v11 : IVec S64x1x1 1 := andi v7 v10
  let c_3 : IVec S_ 1 := constantI S_ 1 1#1
  let v12 : IVec S64x1 1 := (fun x v => Host.reduce IntOp.andi x v reducesTo_S64x1x1_S64x1_d2 h_S_) v11 c_3
  let v13 : FVec F S64x1 .f32 := (fun x i => Host.gather gather_S64x100_S64x1x1_S64x1_n_1_0_0_1_2_11 x i) arg0 v5
  let cst : FVec F S_ .f32 := constant S_ .f32 0x7FC00000#32
  let v14 : FVec F S64x1 .f32 := broadcastInDim S64x1 ![] bcast_S_S64x1 cst
  let v15 : FVec F S64x1 .f32 := select v12 v13 v14
  v15

def fn_sort {F : FTy → Type} [FloatOps F] (arg0 : FVec F S64x32768 .f32) : FVec F S64x32768 .f32 :=
  let v0 : FVec F S64x32768 .f32 := (fun x => Host.sort S64x32768 1 comparator_f32_d1 x) arg0
  v0

def fn_cumsum_2 {F : FTy → Type} [FloatOps F] (arg0 : FVec F S64x32768 .f32) : FVec F S64x32768 .f32 :=
  let cst : FVec F S_ .f32 := constant S_ .f32 0x00000000#32
  let v0 : FVec F S_ .f32 := broadcastInDim S_ ![] bcast_S_S_ cst
  let v1 : FVec F S64x32768 .f32 := (fun x v => Host.reduceWindowAdd ![1, 32768] ![1, 1] ![0, 32767] ![0, 0] x v reduceWindows_S64x32768_S64x32768_w1s1p0_0_w32768s1p32767_0 h_S_) arg0 v0
  v1

def fn_cumsum_1 {F : FTy → Type} [FloatOps F] (arg0 : FVec F S64x32768 .f32) : FVec F S64x32768 .f32 :=
  let v0 : FVec F S64x32768 .f32 := fn_cumsum_2 (F := F) arg0
  v0

def fn_where_3 {F : FTy → Type} [FloatOps F] (arg0 : IVec S64x32768 1) (arg1 : FVec F S64x32768 .f32) (arg2 : FVec F S_ .f32) : FVec F S64x32768 .f32 :=
  let v0 : FVec F S_ .f32 := id arg2
  let v1 : FVec F S64x32768 .f32 := broadcastInDim S64x32768 ![] bcast_S_S64x32768 v0
  let v2 : FVec F S64x32768 .f32 := select arg0 arg1 v1
  v2

def fn_take_along_axis_4 {F : FTy → Type} [FloatOps F] (arg0 : FVec F S64x32768 .f32) (arg1 : IVec S64x1 32) : FVec F S64x1 .f32 :=
  let c : IVec S_ 32 := constantI S_ 32 0#32
  let v0 : IVec S64x1 32 := broadcastInDim S64x1 ![] bcast_S_S64x1 c
  let v1 : IVec S64x1 1 := cmpi .slt arg1 v0
  let c_0 : IVec S_ 32 := constantI S_ 32 32768#32
  let v2 : IVec S64x1 32 := broadcastInDim S64x1 ![] bcast_S_S64x1 c_0
  let v3 : IVec S64x1 32 := addi arg1 v2
  let v4 : IVec S64x1 32 := select v1 v3 arg1
  let v5 : IVec S64x1x1 32 := shapeCast S64x1x1 v4 shapeCasts_S64x1_S64x1x1
  let c_1 : IVec S1 32 := constantI S1 32 32767#32
  let c_2 : IVec S_ 32 := constantI S_ 32 0#32
  let v6 : IVec S64x1x1 32 := broadcastInDim S64x1x1 ![] bcast_S_S64x1x1 c_2
  let v7 : IVec S64x1x1 1 := cmpi .sge v5 v6
  let v8 : IVec S1x1x1 32 := broadcastInDim S1x1x1 ![2] bcast_S1_S1x1x1_2 c_1
  let v9 : IVec S64x1x1 32 := broadcastInDim S64x1x1 ![0, 1, 2] bcast_S1x1x1_S64x1x1_0_1_2 v8
  let v10 : IVec S64x1x1 1 := cmpi .sle v5 v9
  let v11 : IVec S64x1x1 1 := andi v7 v10
  let c_3 : IVec S_ 1 := constantI S_ 1 1#1
  let v12 : IVec S64x1 1 := (fun x v => Host.reduce IntOp.andi x v reducesTo_S64x1x1_S64x1_d2 h_S_) v11 c_3
  let v13 : FVec F S64x1 .f32 := (fun x i => Host.gather gather_S64x32768_S64x1x1_S64x1_n_1_0_0_1_2_11 x i) arg0 v5
  let cst : FVec F S_ .f32 := constant S_ .f32 0x7FC00000#32
  let v14 : FVec F S64x1 .f32 := broadcastInDim S64x1 ![] bcast_S_S64x1 cst
  let v15 : FVec F S64x1 .f32 := select v12 v13 v14
  v15

def fn_where_5 {F : FTy → Type} [FloatOps F] (arg0 : IVec S64x1 1) (arg1 : FVec F S64x1 .f32) (arg2 : FVec F S64x1 .f32) : FVec F S64x1 .f32 :=
  let v0 : FVec F S64x1 .f32 := select arg0 arg1 arg2
  v0

def fn_part5 {F : FTy → Type} [FloatOps F] (main_arg1 : FVec F S64x32768 .f32) (main_v95 : FVec F S64x32768 .f32) : IVec S64x32768 1 :=
  let main_v96 : FVec F S64x32768 .f32 := Host.absf main_v95
  let main_cst_20 : FVec F S_ .f32 := constant S_ .f32 0x00000000#32
  let main_v97 : FVec F S64 .f32 := (fun x v => Host.reduceAdd x v reducesTo_S64x32768_S64_d1 h_S_) main_arg1 main_cst_20
  let main_v98 : FVec F S64x1 .f32 := broadcastInDim S64x1 ![0] bcast_S64_S64x1_0 main_v97
  let main_cst_21 : FVec F S_ .f32 := constant S_ .f32 0x3F800000#32
  let main_v99 : FVec F S64x1 .f32 := broadcastInDim S64x1 ![] bcast_S_S64x1 main_cst_21
  let main_v100 : FVec F S64x1 .f32 := subf main_v98 main_v99
  let main_v101 : FVec F S64x1 .f32 := Host.absf main_v100
  let main_cst_22 : FVec F S_ .f32 := constant S_ .f32 0x40000000#32
  let main_v102 : FVec F S64x1 .f32 := broadcastInDim S64x1 ![] bcast_S_S64x1 main_cst_22
  let main_v103 : FVec F S64x1 .f32 := mulf main_v102 main_v101
  let main_v104 : FVec F S64x32768 .f32 := broadcastInDim S64x32768 ![0, 1] bcast_S64x1_S64x32768_0_1 main_v103
  let main_v105 : IVec S64x32768 1 := cmpf .ole main_v96 main_v104
  main_v105

def fn_part4 {F : FTy → Type} [FloatOps F] (main_arg1 : FVec F S64x32768 .f32) (main_v5 : FVec F S64x32768 .f32) (main_v41 : IVec S64x1 32) (main_v44 : FVec F S64x1 .f32) (main_v47 : FVec F S64x32768 .f32) (main_v54 : FVec F S64x32768 .f32) (main_v74 : FVec F S64x32768 .f32) (main_v76 : IVec S64x32768 1) : IVec S64x32768 1 :=
  let main_v77 : FVec F S64x32768 .f32 := Host.sqrt main_v74
  let main_cst_15 : FVec F S_ .f32 := constant S_ .f32 0x00000000#32
  let main_v78 : FVec F S64x32768 .f32 := fn_where_3 (F := F) main_v76 main_v77 main_cst_15
  let main_v79 : FVec F S64x32768 .f32 := subf main_v54 main_v78
  let main_v80 : IVec S64x32768 1 := cmpf .ole main_v79 main_v47
  let main_v81 : IVec S64x32768 32 := (extui 32 · natLt_1_32) main_v80
  let main_c_16 : IVec S_ 32 := constantI S_ 32 0#32
  let main_v82 : IVec S64 32 := (fun x v => Host.reduce IntOp.addi x v reducesTo_S64x32768_S64_d1 h_S_) main_v81 main_c_16
  let main_v83 : IVec S64x1 32 := broadcastInDim S64x1 ![0] bcast_S64_S64x1_0 main_v82
  let main_c_17 : IVec S_ 32 := constantI S_ 32 1#32
  let main_v84 : IVec S64x1 32 := broadcastInDim S64x1 ![] bcast_S_S64x1 main_c_17
  let main_v85 : IVec S64x1 32 := subi main_v83 main_v84
  let main_v86 : FVec F S64x1 .f32 := fn_take_along_axis_4 (F := F) main_v79 main_v85
  let main_c_18 : IVec S_ 32 := constantI S_ 32 100#32
  let main_v87 : IVec S64x1 32 := broadcastInDim S64x1 ![] bcast_S_S64x1 main_c_18
  let main_v88 : IVec S64x1 1 := cmpi .eq main_v41 main_v87
  let main_v89 : FVec F S64x1 .f32 := fn_where_5 (F := F) main_v88 main_v86 main_v44
  let main_v90 : FVec F S64x32768 .f32 := broadcastInDim S64x32768 ![0, 1] bcast_S64x1_S64x32768_0_1 main_v89
  let main_v91 : FVec F S64x32768 .f32 := subf main_v5 main_v90
  let main_cst_19 : FVec F S_ .f32 := constant S_ .f32 0x00000000#32
  let main_v92 : FVec F S64x32768 .f32 := broadcastInDim S64x32768 ![] bcast_S_S64x32768 main_cst_19
  let main_v93 : FVec F S64x32768 .f32 := maximumf main_v91 main_v92
  let main_v94 : FVec F S64x32768 .f32 := mulf main_v93 main_v93
  let main_v95 : FVec F S64x32768 .f32 := subf main_arg1 main_v94
  fn_part5 (F := F) main_arg1 main_v95

def fn_part3 {F : FTy → Type} [FloatOps F] (main_arg1 : FVec F S64x32768 .f32) (main_v5 : FVec F S64x32768 .f32) (main_v41 : IVec S64x1 32) (main_v44 : FVec F S64x1 .f32) (main_v47 : FVec F S64x32768 .f32) (main_v50 : FVec F S32768 .f32) (main_v54 : FVec F S64x32768 .f32) (main_v56 : FVec F S64x32768 .f32) (main_v57 : FVec F S1x32768 .f32) : IVec S64x32768 1 :=
  let main_v58 : FVec F S64x32768 .f32 := broadcastInDim S64x32768 ![0, 1] bcast_S1x32768_S64x32768_0_1 main_v57
  let main_v59 : FVec F S64x32768 .f32 := Host.divf main_v56 main_v58
  let main_v60 : FVec F S64x32768 .f32 := mulf main_v54 main_v54
  let main_v61 : FVec F S64x32768 .f32 := subf main_v59 main_v60
  let main_v62 : FVec F S1x32768 .f32 := broadcastInDim S1x32768 ![1] bcast_S32768_S1x32768_1 main_v50
  let main_v63 : FVec F S64x32768 .f32 := broadcastInDim S64x32768 ![0, 1] bcast_S1x32768_S64x32768_0_1 main_v62
  let main_v64 : FVec F S64x32768 .f32 := mulf main_v63 main_v61
  let main_cst_10 : FVec F S_ .f32 := constant S_ .f32 0x3F800000#32
  let main_v65 : FVec F S64x32768 .f32 := broadcastInDim S64x32768 ![] bcast_S_S64x32768 main_cst_10
  let main_v66 : FVec F S64x32768 .f32 := subf main_v65 main_v64
  let main_v67 : FVec F S1x32768 .f32 := broadcastInDim S1x32768 ![1] bcast_S32768_S1x32768_1 main_v50
  let main_v68 : FVec F S64x32768 .f32 := broadcastInDim S64x32768 ![0, 1] bcast_S1x32768_S64x32768_0_1 main_v67
  let main_v69 : FVec F S64x32768 .f32 := Host.divf main_v66 main_v68
  let main_cst_11 : FVec F S_ .f32 := constant S_ .f32 0x00000000#32
  let main_v70 : FVec F S64x32768 .f32 := broadcastInDim S64x32768 ![] bcast_S_S64x32768 main_cst_11
  let main_v71 : FVec F S64x32768 .f32 := maximumf main_v69 main_v70
  let main_cst_12 : FVec F S_ .f32 := constant S_ .f32 0x00000000#32
  let main_v72 : FVec F S64x32768 .f32 := broadcastInDim S64x32768 ![] bcast_S_S64x32768 main_cst_12
  let main_v73 : IVec S64x32768 1 := cmpf .ogt main_v71 main_v72
  let main_cst_13 : FVec F S_ .f32 := constant S_ .f32 0x3F800000#32
  let main_v74 : FVec F S64x32768 .f32 := fn_where_3 (F := F) main_v73 main_v71 main_cst_13
  let main_cst_14 : FVec F S_ .f32 := constant S_ .f32 0x00000000#32
  let main_v75 : FVec F S64x32768 .f32 := broadcastInDim S64x32768 ![] bcast_S_S64x32768 main_cst_14
  let main_v76 : IVec S64x32768 1 := cmpf .ogt main_v71 main_v75
  fn_part4 (F := F) main_arg1 main_v5 main_v41 main_v44 main_v47 main_v54 main_v74 main_v76

def fn_part2 {F : FTy → Type} [FloatOps F] (main_arg1 : FVec F S64x32768 .f32) (main_v5 : FVec F S64x32768 .f32) (main_values : FVec F S64x100 .f32) (main_v12 : FVec F S64x100 .f32) (main_v36 : FVec F S64x100 .f32) : IVec S64x32768 1 :=
  let main_v37 : FVec F S64x100 .f32 := subf main_v12 main_v36
  let main_v38 : IVec S64x100 1 := cmpf .ole main_v37 main_values
  let main_v39 : IVec S64x100 32 := (extui 32 · natLt_1_32) main_v38
  let main_c : IVec S_ 32 := constantI S_ 32 0#32
  let main_v40 : IVec S64 32 := (fun x v => Host.reduce IntOp.addi x v reducesTo_S64x100_S64_d1 h_S_) main_v39 main_c
  let main_v41 : IVec S64x1 32 := broadcastInDim S64x1 ![0] bcast_S64_S64x1_0 main_v40
  let main_c_8 : IVec S_ 32 := constantI S_ 32 1#32
  let main_v42 : IVec S64x1 32 := broadcastInDim S64x1 ![] bcast_S_S64x1 main_c_8
  let main_v43 : IVec S64x1 32 := subi main_v41 main_v42
  let main_v44 : FVec F S64x1 .f32 := fn_take_along_axis (F := F) main_v37 main_v43
  let main_v45 : FVec F S64x32768 .f32 := Host.negf main_v5
  let main_v46 : FVec F S64x32768 .f32 := fn_sort (F := F) main_v45
  let main_v47 : FVec F S64x32768 .f32 := Host.negf main_v46
  let main_v48 : FVec F S32768 .f32 := sitofp .f32 (iotaInDim S32768 32 0)
  let main_cst_9 : FVec F S_ .f32 := constant S_ .f32 0x3F800000#32
  let main_v49 : FVec F S32768 .f32 := broadcastInDim S32768 ![] bcast_S_S32768 main_cst_9
  let main_v50 : FVec F S32768 .f32 := addf main_v49 main_v48
  let main_v51 : FVec F S64x32768 .f32 := fn_cumsum_1 (F := F) main_v47
  let main_v52 : FVec F S1x32768 .f32 := broadcastInDim S1x32768 ![1] bcast_S32768_S1x32768_1 main_v50
  let main_v53 : FVec F S64x32768 .f32 := broadcastInDim S64x32768 ![0, 1] bcast_S1x32768_S64x32768_0_1 main_v52
  let main_v54 : FVec F S64x32768 .f32 := Host.divf main_v51 main_v53
  let main_v55 : FVec F S64x32768 .f32 := mulf main_v47 main_v47
  let main_v56 : FVec F S64x32768 .f32 := fn_cumsum_1 (F := F) main_v55
  let main_v57 : FVec F S1x32768 .f32 := broadcastInDim S1x32768 ![1] bcast_S32768_S1x32768_1 main_v50
  fn_part3 (F := F) main_arg1 main_v5 main_v41 main_v44 main_v47 main_v50 main_v54 main_v56 main_v57

def fn_part1 {F : FTy → Type} [FloatOps F] (main_arg1 : FVec F S64x32768 .f32) (main_v5 : FVec F S64x32768 .f32) (main_values : FVec F S64x100 .f32) (main_v8 : FVec F S100 .f32) (main_v12 : FVec F S64x100 .f32) (main_v17 : FVec F S64x100 .f32) (main_v18 : FVec F S64x100 .f32) : IVec S64x32768 1 :=
  let main_v19 : FVec F S64x100 .f32 := subf main_v17 main_v18
  let main_v20 : FVec F S1x100 .f32 := broadcastInDim S1x100 ![1] bcast_S100_S1x100_1 main_v8
  let main_v21 : FVec F S64x100 .f32 := broadcastInDim S64x100 ![0, 1] bcast_S1x100_S64x100_0_1 main_v20
  let main_v22 : FVec F S64x100 .f32 := mulf main_v21 main_v19
  let main_cst_2 : FVec F S_ .f32 := constant S_ .f32 0x3F800000#32
  let main_v23 : FVec F S64x100 .f32 := broadcastInDim S64x100 ![] bcast_S_S64x100 main_cst_2
  let main_v24 : FVec F S64x100 .f32 := subf main_v23 main_v22
  let main_v25 : FVec F S1x100 .f32 := broadcastInDim S1x100 ![1] bcast_S100_S1x100_1 main_v8
  let main_v26 : FVec F S64x100 .f32 := broadcastInDim S64x100 ![0, 1] bcast_S1x100_S64x100_0_1 main_v25
  let main_v27 : FVec F S64x100 .f32 := Host.divf main_v24 main_v26
  let main_cst_3 : FVec F S_ .f32 := constant S_ .f32 0x00000000#32
  let main_v28 : FVec F S64x100 .f32 := broadcastInDim S64x100 ![] bcast_S_S64x100 main_cst_3
  let main_v29 : FVec F S64x100 .f32 := maximumf main_v27 main_v28
  let main_cst_4 : FVec F S_ .f32 := constant S_ .f32 0x00000000#32
  let main_v30 : FVec F S64x100 .f32 := broadcastInDim S64x100 ![] bcast_S_S64x100 main_cst_4
  let main_v31 : IVec S64x100 1 := cmpf .ogt main_v29 main_v30
  let main_cst_5 : FVec F S_ .f32 := constant S_ .f32 0x3F800000#32
  let main_v32 : FVec F S64x100 .f32 := fn_where (F := F) main_v31 main_v29 main_cst_5
  let main_cst_6 : FVec F S_ .f32 := constant S_ .f32 0x00000000#32
  let main_v33 : FVec F S64x100 .f32 := broadcastInDim S64x100 ![] bcast_S_S64x100 main_cst_6
  let main_v34 : IVec S64x100 1 := cmpf .ogt main_v29 main_v33
  let main_v35 : FVec F S64x100 .f32 := Host.sqrt main_v32
  let main_cst_7 : FVec F S_ .f32 := constant S_ .f32 0x00000000#32
  let main_v36 : FVec F S64x100 .f32 := fn_where (F := F) main_v34 main_v35 main_cst_7
  fn_part2 (F := F) main_arg1 main_v5 main_values main_v12 main_v36

def fn {F : FTy → Type} [FloatOps F] (main_arg0 : FVec F S64x32768 .f32) (main_arg1 : FVec F S64x32768 .f32) : IVec S64x32768 1 :=
  let main_cst : FVec F S_ .f32 := constant S_ .f32 0xFF800000#32
  let main_v0 : FVec F S64 .f32 := (fun x v => Host.reduce FloatOps.maximumf x v reducesTo_S64x32768_S64_d1 h_S_) main_arg0 main_cst
  let main_v1 : FVec F S64x1 .f32 := broadcastInDim S64x1 ![0] bcast_S64_S64x1_0 main_v0
  let main_v2 : FVec F S64x32768 .f32 := broadcastInDim S64x32768 ![0, 1] bcast_S64x1_S64x32768_0_1 main_v1
  let main_v3 : FVec F S64x32768 .f32 := subf main_arg0 main_v2
  let main_cst_0 : FVec F S_ .f32 := constant S_ .f32 0x40000000#32
  let main_v4 : FVec F S64x32768 .f32 := broadcastInDim S64x32768 ![] bcast_S_S64x32768 main_cst_0
  let main_v5 : FVec F S64x32768 .f32 := Host.divf main_v3 main_v4
  let main_values : FVec F S64x100 .f32 := (fun x => (Host.topK S64x100 1 (FloatOps.cmpfTotal .gt) x sliceFits_S64x32768_S64x100).1) main_v5
  let main_indices : IVec S64x100 32 := (fun x => (Host.topK S64x100 1 (FloatOps.cmpfTotal .gt) x sliceFits_S64x32768_S64x100).2) main_v5
  let main_v6 : FVec F S100 .f32 := sitofp .f32 (iotaInDim S100 32 0)
  let main_cst_1 : FVec F S_ .f32 := constant S_ .f32 0x3F800000#32
  let main_v7 : FVec F S100 .f32 := broadcastInDim S100 ![] bcast_S_S100 main_cst_1
  let main_v8 : FVec F S100 .f32 := addf main_v7 main_v6
  let main_v9 : FVec F S64x100 .f32 := fn_cumsum (F := F) main_values
  let main_v10 : FVec F S1x100 .f32 := broadcastInDim S1x100 ![1] bcast_S100_S1x100_1 main_v8
  let main_v11 : FVec F S64x100 .f32 := broadcastInDim S64x100 ![0, 1] bcast_S1x100_S64x100_0_1 main_v10
  let main_v12 : FVec F S64x100 .f32 := Host.divf main_v9 main_v11
  let main_v13 : FVec F S64x100 .f32 := mulf main_values main_values
  let main_v14 : FVec F S64x100 .f32 := fn_cumsum (F := F) main_v13
  let main_v15 : FVec F S1x100 .f32 := broadcastInDim S1x100 ![1] bcast_S100_S1x100_1 main_v8
  let main_v16 : FVec F S64x100 .f32 := broadcastInDim S64x100 ![0, 1] bcast_S1x100_S64x100_0_1 main_v15
  let main_v17 : FVec F S64x100 .f32 := Host.divf main_v14 main_v16
  let main_v18 : FVec F S64x100 .f32 := mulf main_v12 main_v12
  fn_part1 (F := F) main_arg1 main_v5 main_values main_v8 main_v12 main_v17 main_v18
-- ==== Pre_finite.lean ====
abbrev S64x32768 : Shape := ⟨2, ![64, 32768]⟩
abbrev S_ : Shape := ⟨0, ![]⟩

class Facts : Prop where
  bcast_S_S64x32768 : S_.BroadcastsInDim S64x32768 (![] : Fin 0 → Fin S64x32768.rank)

variable [Facts]

def fn {F : FTy → Type} [FloatOps F] (main_arg0 : FVec F S64x32768 .f32) : IVec S64x32768 1 :=
  let main_v0 : FVec F S64x32768 .f32 := Host.absf main_arg0
  let main_cst : FVec F S_ .f32 := constant S_ .f32 0x7F800000#32
  let main_v1 : FVec F S64x32768 .f32 := broadcastInDim S64x32768 ![] bcast_S_S64x32768 main_cst
  let main_v2 : IVec S64x32768 1 := cmpf .olt main_v0 main_v1
  main_v2
-- ==== Kernel.lean ====
abbrev S64x32768 : Shape := ⟨2, ![64, 32768]⟩
abbrev S16x32768 : Shape := ⟨2, ![16, 32768]⟩
abbrev S16x1024 : Shape := ⟨2, ![16, 1024]⟩
abbrev S16 : Shape := ⟨1, ![16]⟩
abbrev S16x1 : Shape := ⟨2, ![16, 1]⟩
abbrev S8x1 : Shape := ⟨2, ![8, 1]⟩
abbrev S8x1024 : Shape := ⟨2, ![8, 1024]⟩
abbrev S8 : Shape := ⟨1, ![8]⟩

abbrev nBuf : Space → Nat
  | .hbm => 2
  | .vmem => 5
  | .smem => 0
  | _ => 0

abbrev bufTy : (tb : Table) → Fin (tcTables nBuf tb) → BufTy
  | .hbm, ⟨0, _⟩ => ⟨S64x32768, .f32⟩
  | .hbm, ⟨1, _⟩ => ⟨S64x32768, .f32⟩
  | .local _ .vmem, ⟨0, _⟩ => ⟨S16x32768, .f32⟩
  | .local _ .vmem, ⟨1, _⟩ => ⟨S16x32768, .f32⟩
  | .local _ .vmem, ⟨2, _⟩ => ⟨S16x32768, .f32⟩
  | .local _ .vmem, ⟨3, _⟩ => ⟨S16x32768, .f32⟩
  | .local _ .vmem, ⟨4, _⟩ => ⟨S16x32768, .f32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c7_i32 : BitVec 32 := 7#32
  let v1473 : BitVec 32 := Scalar.addi c0_i32 c7_i32
  let c1_i32 : BitVec 32 := 1#32
  ⟨c0_i32, v1473, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S64x32768 : Shape := ⟨2, ![64, 32768]⟩
abbrev S_ : Shape := ⟨0, ![]⟩
abbrev S64 : Shape := ⟨1, ![64]⟩
abbrev S64x1 : Shape := ⟨2, ![64, 1]⟩
abbrev S64x100 : Shape := ⟨2, ![64, 100]⟩
abbrev S100 : Shape := ⟨1, ![100]⟩
abbrev S1x100 : Shape := ⟨2, ![1, 100]⟩
abbrev S64x1x1 : Shape := ⟨3, ![64, 1, 1]⟩
abbrev S1 : Shape := ⟨1, ![1]⟩
abbrev S1x1x1 : Shape := ⟨3, ![1, 1, 1]⟩
abbrev S32768 : Shape := ⟨1, ![32768]⟩
abbrev S1x32768 : Shape := ⟨2, ![1, 32768]⟩

abbrev nBuf : Space → Nat
  | .hbm => 178
  | .vmem => 0
  | .smem => 0
  | _ => 0

abbrev hbmTy0_0 (i : Nat) : BufTy := match i % 128 with
  | 0 => ⟨S64x32768, .f32⟩
  | 1 => ⟨S_, .f32⟩
  | 2 => ⟨S64, .f32⟩
  | 3 => ⟨S64x1, .f32⟩
  | 4 => ⟨S64x32768, .f32⟩
  | 5 => ⟨S64x32768, .f32⟩
  | 6 => ⟨S_, .f32⟩
  | 7 => ⟨S64x32768, .f32⟩
  | 8 => ⟨S64x32768, .f32⟩
  | 9 => ⟨S64x100, .f32⟩
  | 10 => ⟨S64x100, .i32⟩
  | 11 => ⟨S100, .f32⟩
  | 12 => ⟨S_, .f32⟩
  | 13 => ⟨S100, .f32⟩
  | 14 => ⟨S100, .f32⟩
  | 15 => ⟨S_, .f32⟩
  | 16 => ⟨S_, .f32⟩
  | 17 => ⟨S64x100, .f32⟩
  | 18 => ⟨S1x100, .f32⟩
  | 19 => ⟨S64x100, .f32⟩
  | 20 => ⟨S64x100, .f32⟩
  | 21 => ⟨S64x100, .f32⟩
  | 22 => ⟨S_, .f32⟩
  | 23 => ⟨S_, .f32⟩
  | 24 => ⟨S64x100, .f32⟩
  | 25 => ⟨S1x100, .f32⟩
  | 26 => ⟨S64x100, .f32⟩
  | 27 => ⟨S64x100, .f32⟩
  | 28 => ⟨S64x100, .f32⟩
  | 29 => ⟨S64x100, .f32⟩
  | 30 => ⟨S1x100, .f32⟩
  | 31 => ⟨S64x100, .f32⟩
  | 32 => ⟨S64x100, .f32⟩
  | 33 => ⟨S_, .f32⟩
  | 34 => ⟨S64x100, .f32⟩
  | 35 => ⟨S64x100, .f32⟩
  | 36 => ⟨S1x100, .f32⟩
  | 37 => ⟨S64x100, .f32⟩
  | 38 => ⟨S64x100, .f32⟩
  | 39 => ⟨S_, .f32⟩
  | 40 => ⟨S64x100, .f32⟩
  | 41 => ⟨S64x100, .f32⟩
  | 42 => ⟨S_, .f32⟩
  | 43 => ⟨S64x100, .f32⟩
  | 44 => ⟨S64x100, .i1⟩
  | 45 => ⟨S_, .f32⟩
  | 46 => ⟨S_, .f32⟩
  | 47 => ⟨S64x100, .f32⟩
  | 48 => ⟨S64x100, .f32⟩
  | 49 => ⟨S_, .f32⟩
  | 50 => ⟨S64x100, .f32⟩
  | 51 => ⟨S64x100, .i1⟩
  | 52 => ⟨S64x100, .f32⟩
  | 53 => ⟨S_, .f32⟩
  | 54 => ⟨S_, .f32⟩
  | 55 => ⟨S64x100, .f32⟩
  | 56 => ⟨S64x100, .f32⟩
  | 57 => ⟨S64x100, .f32⟩
  | 58 => ⟨S64x100, .i1⟩
  | 59 => ⟨S64x100, .i32⟩
  | 60 => ⟨S_, .i32⟩
  | 61 => ⟨S64, .i32⟩
  | 62 => ⟨S64x1, .i32⟩
  | 63 => ⟨S_, .i32⟩
  | 64 => ⟨S64x1, .i32⟩
  | 65 => ⟨S64x1, .i32⟩
  | 66 => ⟨S_, .i32⟩
  | 67 => ⟨S64x1, .i32⟩
  | 68 => ⟨S64x1, .i1⟩
  | 69 => ⟨S_, .i32⟩
  | 70 => ⟨S64x1, .i32⟩
  | 71 => ⟨S64x1, .i32⟩
  | 72 => ⟨S64x1, .i32⟩
  | 73 => ⟨S64x1x1, .i32⟩
  | 74 => ⟨S1, .i32⟩
  | 75 => ⟨S_, .i32⟩
  | 76 => ⟨S64x1x1, .i32⟩
  | 77 => ⟨S64x1x1, .i1⟩
  | 78 => ⟨S1x1x1, .i32⟩
  | 79 => ⟨S64x1x1, .i32⟩
  | 80 => ⟨S64x1x1, .i1⟩
  | 81 => ⟨S64x1x1, .i1⟩
  | 82 => ⟨S_, .i1⟩
  | 83 => ⟨S64x1, .i1⟩
  | 84 => ⟨S64x1, .f32⟩
  | 85 => ⟨S_, .f32⟩
  | 86 => ⟨S64x1, .f32⟩
  | 87 => ⟨S64x1, .f32⟩
  | 88 => ⟨S64x32768, .f32⟩
  | 89 => ⟨S64x32768, .f32⟩
  | 90 => ⟨S64x32768, .f32⟩
  | 91 => ⟨S32768, .f32⟩
  | 92 => ⟨S_, .f32⟩
  | 93 => ⟨S32768, .f32⟩
  | 94 => ⟨S32768, .f32⟩
  | 95 => ⟨S_, .f32⟩
  | 96 => ⟨S_, .f32⟩
  | 97 => ⟨S64x32768, .f32⟩
  | 98 => ⟨S1x32768, .f32⟩
  | 99 => ⟨S64x32768, .f32⟩
  | 100 => ⟨S64x32768, .f32⟩
  | 101 => ⟨S64x32768, .f32⟩
  | 102 => ⟨S_, .f32⟩
  | 103 => ⟨S_, .f32⟩
  | 104 => ⟨S64x32768, .f32⟩
  | 105 => ⟨S1x32768, .f32⟩
  | 106 => ⟨S64x32768, .f32⟩
  | 107 => ⟨S64x32768, .f32⟩
  | 108 => ⟨S64x32768, .f32⟩
  | 109 => ⟨S64x32768, .f32⟩
  | 110 => ⟨S1x32768, .f32⟩
  | 111 => ⟨S64x32768, .f32⟩
  | 112 => ⟨S64x32768, .f32⟩
  | 113 => ⟨S_, .f32⟩
  | 114 => ⟨S64x32768, .f32⟩
  | 115 => ⟨S64x32768, .f32⟩
  | 116 => ⟨S1x32768, .f32⟩
  | 117 => ⟨S64x32768, .f32⟩
  | 118 => ⟨S64x32768, .f32⟩
  | 119 => ⟨S_, .f32⟩
  | 120 => ⟨S64x32768, .f32⟩
  | 121 => ⟨S64x32768, .f32⟩
  | 122 => ⟨S_, .f32⟩
  | 123 => ⟨S64x32768, .f32⟩
  | 124 => ⟨S64x32768, .i1⟩
  | 125 => ⟨S_, .f32⟩
  | 126 => ⟨S_, .f32⟩
  | 127 => ⟨S64x32768, .f32⟩
  | _ => ⟨S64x32768, .f32⟩

abbrev hbmTy0_1 (i : Nat) : BufTy := match i % 128 with
  | 0 => ⟨S64x32768, .f32⟩
  | 1 => ⟨S_, .f32⟩
  | 2 => ⟨S64x32768, .f32⟩
  | 3 => ⟨S64x32768, .i1⟩
  | 4 => ⟨S64x32768, .f32⟩
  | 5 => ⟨S_, .f32⟩
  | 6 => ⟨S_, .f32⟩
  | 7 => ⟨S64x32768, .f32⟩
  | 8 => ⟨S64x32768, .f32⟩
  | 9 => ⟨S64x32768, .f32⟩
  | 10 => ⟨S64x32768, .i1⟩
  | 11 => ⟨S64x32768, .i32⟩
  | 12 => ⟨S_, .i32⟩
  | 13 => ⟨S64, .i32⟩
  | 14 => ⟨S64x1, .i32⟩
  | 15 => ⟨S_, .i32⟩
  | 16 => ⟨S64x1, .i32⟩
  | 17 => ⟨S64x1, .i32⟩
  | 18 => ⟨S_, .i32⟩
  | 19 => ⟨S64x1, .i32⟩
  | 20 => ⟨S64x1, .i1⟩
  | 21 => ⟨S_, .i32⟩
  | 22 => ⟨S64x1, .i32⟩
  | 23 => ⟨S64x1, .i32⟩
  | 24 => ⟨S64x1, .i32⟩
  | 25 => ⟨S64x1x1, .i32⟩
  | 26 => ⟨S1, .i32⟩
  | 27 => ⟨S_, .i32⟩
  | 28 => ⟨S64x1x1, .i32⟩
  | 29 => ⟨S64x1x1, .i1⟩
  | 30 => ⟨S1x1x1, .i32⟩
  | 31 => ⟨S64x1x1, .i32⟩
  | 32 => ⟨S64x1x1, .i1⟩
  | 33 => ⟨S64x1x1, .i1⟩
  | 34 => ⟨S_, .i1⟩
  | 35 => ⟨S64x1, .i1⟩
  | 36 => ⟨S64x1, .f32⟩
  | 37 => ⟨S_, .f32⟩
  | 38 => ⟨S64x1, .f32⟩
  | 39 => ⟨S64x1, .f32⟩
  | 40 => ⟨S_, .i32⟩
  | 41 => ⟨S64x1, .i32⟩
  | 42 => ⟨S64x1, .i1⟩
  | 43 => ⟨S64x1, .f32⟩
  | 44 => ⟨S64x32768, .f32⟩
  | 45 => ⟨S64x32768, .f32⟩
  | 46 => ⟨S_, .f32⟩
  | 47 => ⟨S64x32768, .f32⟩
  | 48 => ⟨S64x32768, .f32⟩
  | 49 => ⟨S64x32768, .f32⟩
  | _ => ⟨S64x32768, .f32⟩

abbrev hbmTy (i : Nat) : BufTy := match i / 128 with
  | 0 => hbmTy0_0 i
  | 1 => hbmTy0_1 i
  | _ => ⟨S64x32768, .f32⟩

abbrev bufTy : (tb : Table) → Fin (tcTables nBuf tb) → BufTy
  | .hbm, ⟨i, _⟩ => hbmTy i
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_values : Ref sig .tc := ⟨.hbm, 9, rfl⟩
abbrev main_indices : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_call0_call0_cst : Ref sig .tc := ⟨.hbm, 15, rfl⟩
abbrev main_call0_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_call0_cst : Ref sig .tc := ⟨.hbm, 22, rfl⟩
abbrev main_call1_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_call2_v0 : Ref sig .tc := ⟨.hbm, 46, rfl⟩
abbrev main_call2_v1 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_call3_v0 : Ref sig .tc := ⟨.hbm, 54, rfl⟩
abbrev main_call3_v1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_call4_c : Ref sig .tc := ⟨.hbm, 66, rfl⟩
abbrev main_call4_v0 : Ref sig .tc := ⟨.hbm, 67, rfl⟩
abbrev main_call4_v1 : Ref sig .tc := ⟨.hbm, 68, rfl⟩
abbrev main_call4_c_0 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_c_1 : Ref sig .tc := ⟨.hbm, 74, rfl⟩
abbrev main_call4_c_2 : Ref sig .tc := ⟨.hbm, 75, rfl⟩
abbrev main_call4_v6 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_call4_v11 : Ref sig .tc := ⟨.hbm, 81, rfl⟩
abbrev main_call4_c_3 : Ref sig .tc := ⟨.hbm, 82, rfl⟩
abbrev main_call4_v12 : Ref sig .tc := ⟨.hbm, 83, rfl⟩
abbrev main_call4_v13 : Ref sig .tc := ⟨.hbm, 84, rfl⟩
abbrev main_call4_cst : Ref sig .tc := ⟨.hbm, 85, rfl⟩
abbrev main_call4_v14 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_9 : Ref sig .tc := ⟨.hbm, 92, rfl⟩
abbrev main_v49 : Ref sig .tc := ⟨.hbm, 93, rfl⟩
abbrev main_v50 : Ref sig .tc := ⟨.hbm, 94, rfl⟩
abbrev main_call6_call0_cst : Ref sig .tc := ⟨.hbm, 95, rfl⟩
abbrev main_call6_call0_v0 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_call7_call0_cst : Ref sig .tc := ⟨.hbm, 102, rfl⟩
abbrev main_call7_call0_v0 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_10 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_11 : Ref sig .tc := ⟨.hbm, 119, rfl⟩
abbrev main_v70 : Ref sig .tc := ⟨.hbm, 120, rfl⟩
abbrev main_v71 : Ref sig .tc := ⟨.hbm, 121, rfl⟩
abbrev main_cst_12 : Ref sig .tc := ⟨.hbm, 122, rfl⟩
abbrev main_v72 : Ref sig .tc := ⟨.hbm, 123, rfl⟩
abbrev main_v73 : Ref sig .tc := ⟨.hbm, 124, rfl⟩
abbrev main_cst_13 : Ref sig .tc := ⟨.hbm, 125, rfl⟩
abbrev main_call8_v0 : Ref sig .tc := ⟨.hbm, 126, rfl⟩
abbrev main_call8_v1 : Ref sig .tc := ⟨.hbm, 127, rfl⟩
abbrev main_v74 : Ref sig .tc := ⟨.hbm, 128, rfl⟩
abbrev main_cst_14 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_15 : Ref sig .tc := ⟨.hbm, 133, rfl⟩
abbrev main_call9_v0 : Ref sig .tc := ⟨.hbm, 134, rfl⟩
abbrev main_call9_v1 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_c_16 : Ref sig .tc := ⟨.hbm, 140, rfl⟩
abbrev main_v82 : Ref sig .tc := ⟨.hbm, 141, rfl⟩
abbrev main_v83 : Ref sig .tc := ⟨.hbm, 142, rfl⟩
abbrev main_c_17 : Ref sig .tc := ⟨.hbm, 143, rfl⟩
abbrev main_v84 : Ref sig .tc := ⟨.hbm, 144, rfl⟩
abbrev main_v85 : Ref sig .tc := ⟨.hbm, 145, rfl⟩
abbrev main_call10_c : Ref sig .tc := ⟨.hbm, 146, rfl⟩
abbrev main_call10_v0 : Ref sig .tc := ⟨.hbm, 147, rfl⟩
abbrev main_call10_v1 : Ref sig .tc := ⟨.hbm, 148, rfl⟩
abbrev main_call10_c_0 : Ref sig .tc := ⟨.hbm, 149, rfl⟩
abbrev main_call10_v2 : Ref sig .tc := ⟨.hbm, 150, rfl⟩
abbrev main_call10_v3 : Ref sig .tc := ⟨.hbm, 151, rfl⟩
abbrev main_call10_v4 : Ref sig .tc := ⟨.hbm, 152, rfl⟩
abbrev main_call10_v5 : Ref sig .tc := ⟨.hbm, 153, rfl⟩
abbrev main_call10_c_1 : Ref sig .tc := ⟨.hbm, 154, rfl⟩
abbrev main_call10_c_2 : Ref sig .tc := ⟨.hbm, 155, rfl⟩
abbrev main_call10_v6 : Ref sig .tc := ⟨.hbm, 156, rfl⟩
abbrev main_call10_v7 : Ref sig .tc := ⟨.hbm, 157, rfl⟩
abbrev main_call10_v8 : Ref sig .tc := ⟨.hbm, 158, rfl⟩
abbrev main_call10_v9 : Ref sig .tc := ⟨.hbm, 159, rfl⟩
abbrev main_call10_v10 : Ref sig .tc := ⟨.hbm, 160, rfl⟩
abbrev main_call10_v11 : Ref sig .tc := ⟨.hbm, 161, rfl⟩
abbrev main_call10_c_3 : Ref sig .tc := ⟨.hbm, 162, rfl⟩
abbrev main_call10_v12 : Ref sig .tc := ⟨.hbm, 163, rfl⟩
abbrev main_call10_v13 : Ref sig .tc := ⟨.hbm, 164, rfl⟩
abbrev main_call10_cst : Ref sig .tc := ⟨.hbm, 165, rfl⟩
abbrev main_call10_v14 : Ref sig .tc := ⟨.hbm, 166, rfl⟩
abbrev main_v86 : Ref sig .tc := ⟨.hbm, 167, rfl⟩
abbrev main_c_18 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_cst_19 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩

abbrev nD : Nat := 1
abbrev τ : Topo := Topo.v7x

variable {F : FTy → Type} [FloatOps F]
-- ==== Proof.Tsallis.Run.lean ====
/- What one grid point of the kernel leaves in its output block, as one closed term: the row maxima, the shifted rows,
   the two halves' searches and the final squares, each stated once and found equal to the values the run names. -/
module

public import proofs.«01_k».proof.Proof.Gen.KernelIdeal.Value
public import Idealize.ShloMosaic.Lib.Pipeline.ReadBack

@[expose] public section

set_option maxRecDepth 65536
set_option maxHeartbeats 2000000

noncomputable section

namespace Cert.KernelIdeal.Row

open Cert.KernelIdeal Cert.KernelIdeal.Gen Idealize.ShloMosaic Idealize.ShloMosaic.TcCoe Idealize.SL.Sem

variable {F : FTy → Type} [FloatOps F]

/-- An 8 × 1 column of one number. -/
abbrev col (b : BitVec 32) : FVec F S8x1 .f32 := broadcast S8x1 (Scalar.ofBits .f32 b)

/-- An 8 × 1024 block of one number. -/
abbrev blk (b : BitVec 32) : FVec F S8x1024 .f32 := broadcast S8x1024 (Scalar.ofBits .f32 b)

/-- The sum of the first `n` of 32 blocks, from zero, first to last. -/
def sumTo (g : Fin 32 → FVec F S8x1024 .f32) : (n : ℕ) → n ≤ 32 → FVec F S8x1024 .f32
  | 0, _ => blk 0x00000000#32
  | n + 1, h => addf (sumTo g n (Nat.le_of_succ_le h)) (g ⟨n, h⟩)

/-- The sum of 32 blocks, and then along its lanes: an 8 × 1 column. -/
def total (g : Fin 32 → FVec F S8x1024 .f32) : FVec F S8x1 .f32 :=
  shapeCast S8x1 (multiReduction .add [1] S8 (sumTo g 32 le_rfl) 0x00000000#32 reduces_S8x1024_S8 (.inl rfl) rfl)
    shapeCasts_S8_S8x1

/-- The 8 rows from `r0` and the 1024 lanes from `1024 k` lie in the block. -/
theorem inb8 (r0 : ℕ) (h : r0 ≤ 8) (k : Fin 32) (a : Fin S16x32768.rank) :
    (![r0, 1024 * k.val] : Fin 2 → ℕ) a + S8x1024.size a ≤ S16x32768.size a := by
  have := k.isLt
  match a with
  | ⟨0, _⟩ => show r0 + 8 ≤ 16; omega
  | ⟨1, _⟩ => show 1024 * k.val + 1024 ≤ 32768; omega

/-- All 16 rows and the 1024 lanes from `1024 k` lie in the block. -/
theorem inb16 (k : Fin 32) (a : Fin S16x32768.rank) :
    (![0, 1024 * k.val] : Fin 2 → ℕ) a + S16x1024.size a ≤ S16x32768.size a := by
  have := k.isLt
  match a with
  | ⟨0, _⟩ => show 0 + 16 ≤ 16; omega
  | ⟨1, _⟩ => show 1024 * k.val + 1024 ≤ 32768; omega

/-- The rectangle of 8 rows from `r0` and the `k`-th 1024 lanes. -/
abbrev rect8 (r0 : ℕ) (h : r0 ≤ 8) (k : Fin 32) : Rect S16x32768 :=
  Rect.unit (s := S16x32768) ![r0, 1024 * k.val] S8x1024.size (inb8 r0 h k)

/-- What a buffer holds there. -/
def piece (m : Memref sig .tc .vmem S16x32768 .f32) (X : m.view.ty.Contents (Elt F)) (r0 : ℕ) (h : r0 ≤ 8) (k : Fin 32) :
    Vec F S8x1024 .f32 :=
  View.readAt (Elt F) m.view (rect8 r0 h k).toLoadRect X

/-- The maximum of the first `n + 1` blocks of all 16 rows. -/
def maxTo (m : Memref sig .tc .vmem S16x32768 .f32) (X : m.view.ty.Contents (Elt F)) :
    (n : ℕ) → n < 32 → FVec F S16x1024 .f32
  | 0, h => View.readAt (Elt F) m.view (Rect.unit (s := S16x32768) ![0, 1024 * (⟨0, h⟩ : Fin 32).val] S16x1024.size (inb16 ⟨0, h⟩)).toLoadRect X
  | n + 1, h => maximumf (maxTo m X n (Nat.lt_of_succ_lt h))
      (View.readAt (Elt F) m.view (Rect.unit (s := S16x32768) ![0, 1024 * (⟨n + 1, h⟩ : Fin 32).val] S16x1024.size (inb16 ⟨n + 1, h⟩)).toLoadRect X)

/-- The 16 row maxima. -/
def rowMax (m : Memref sig .tc .vmem S16x32768 .f32) (X : m.view.ty.Contents (Elt F)) : FVec F S16x1 .f32 :=
  shapeCast S16x1 (multiReduction .maximumf [1] S16 (maxTo m X 31 (by decide)) 0xFF800000#32 reduces_S16x1024_S16 (.inl rfl) rfl)
    shapeCasts_S16_S16x1

/-- A block less its rows' maxima, halved. -/
def shifted (mv : FVec F S8x1 .f32) (x : Vec F S8x1024 .f32) : FVec F S8x1024 .f32 :=
  mulf (subf x (broadcastTo S8x1024 mv broadcasts_S8x1_S8x1024)) (blk 0x3F000000#32)

/-- The positive part of a block plus one. -/
def over1 (x : Vec F S8x1024 .f32) : FVec F S8x1024 .f32 :=
  maximumf (addf x (blk 0x3F800000#32)) (blk 0x00000000#32)

/-- The positive part of a block less a column. -/
def over (t : FVec F S8x1 .f32) (x : Vec F S8x1024 .f32) : FVec F S8x1024 .f32 :=
  maximumf (subf x (broadcastTo S8x1024 t broadcasts_S8x1_S8x1024)) (blk 0x00000000#32)

/-- One where a block is positive, zero elsewhere. -/
def ones (x : Vec F S8x1024 .f32) : FVec F S8x1024 .f32 :=
  select (cmpf .ogt x (blk 0x00000000#32)) (blk 0x3F800000#32) (blk 0x00000000#32)

/-- What the search of eight rows carries: the point, the point before it, the slope and the count there, the bracket. -/
structure Search (F : FTy → Type) where
  t : FVec F S8x1 .f32
  tp : FVec F S8x1 .f32
  hp : FVec F S8x1 .f32
  np : FVec F S8x1 .f32
  lo : FVec F S8x1 .f32
  hi : FVec F S8x1 .f32

/-- The count of the last step's secant, where that can be trusted. -/
def Search.count (s : Search F) (h : FVec F S8x1 .f32) : FVec F S8x1 .f32 :=
  select
    (andi (cmpf .oge (absf (subf s.t s.tp)) (col 0x37FBA882#32))
      (cmpf .ogt (divf (subf s.hp h) (select (cmpf .oeq (subf s.t s.tp) (col 0x00000000#32)) (col 0x3F800000#32) (subf s.t s.tp)))
        (col 0x00000000#32)))
    (divf (subf s.hp h) (select (cmpf .oeq (subf s.t s.tp) (col 0x00000000#32)) (col 0x3F800000#32) (subf s.t s.tp)))
    s.np

/-- The bracket's new lower end. -/
def lower (t lo f : FVec F S8x1 .f32) : FVec F S8x1 .f32 := select (cmpf .oge f (col 0x3F800000#32)) t lo

/-- The bracket's new upper end. -/
def upper (t hi f : FVec F S8x1 .f32) : FVec F S8x1 .f32 := select (cmpf .oge f (col 0x3F800000#32)) hi t

/-- The discriminant of the quadratic of mass `f`, slope `h` and count `n`. -/
def disc (f h n : FVec F S8x1 .f32) : FVec F S8x1 .f32 := subf (mulf h h) (mulf n (subf f (col 0x3F800000#32)))

/-- The root of that quadratic, from the point `t`. -/
def root (t f h n : FVec F S8x1 .f32) : FVec F S8x1 .f32 :=
  addf t (divf (subf h (sqrt (maximumf (disc f h n) (col 0x00000000#32)))) (maximumf n (col 0x3F800000#32)))

/-- The next point: the root where it is one and lies in the bracket, else the bracket's middle. -/
def next (t lo hi f h n : FVec F S8x1 .f32) : FVec F S8x1 .f32 :=
  select
    (andi (andi (andi (cmpf .oge (disc f h n) (col 0x00000000#32)) (cmpf .ogt n (col 0x00000000#32)))
      (cmpf .oge (root t f h n) (lower t lo f))) (cmpf .ole (root t f h n) (upper t hi f)))
    (root t f h n)
    (mulf (addf (lower t lo f) (upper t hi f)) (col 0x3F000000#32))

/-- One step of the search, at mass `f` and slope `h`. -/
def Search.step (s : Search F) (f h : FVec F S8x1 .f32) : Search F :=
  ⟨next s.t s.lo s.hi f h (s.count h), s.t, h, s.count h, lower s.t s.lo f, upper s.t s.hi f⟩

/-- The mass over a column `t` of eight rows. -/
def massAt (p : Fin 32 → Vec F S8x1024 .f32) (t : FVec F S8x1 .f32) : FVec F S8x1 .f32 :=
  total fun k => mulf (over t (p k)) (over t (p k))

/-- The slope over a column `t` of eight rows. -/
def slopeAt (p : Fin 32 → Vec F S8x1024 .f32) (t : FVec F S8x1 .f32) : FVec F S8x1 .f32 :=
  total fun k => over t (p k)

section Body

variable (c : Dev nD) (i : grid0.Coords) (arg1 : Memref sig .tc .vmem S16x32768 .f32) (harg1 : arg1.IsWhole)
  (arg2 : Memref sig .tc .vmem S16x32768 .f32) (harg2 : arg2.IsWhole) (arg3 : Memref sig .tc .vmem S16x32768 .f32)
  (harg3 : arg3.IsWhole) (x0 : Vec F S16x32768 .f32)

/-- The maxima of eight rows from `r0`. -/
def mxA : FVec F S8x1 .f32 := extractStridedSlice S8x1 ![0, 0] (rowMax arg1 (harg1.unread x0)) slices_S16x1_o0_0_S8x1

/-- The maxima of the last eight rows. -/
def mxB : FVec F S8x1 .f32 := extractStridedSlice S8x1 ![8, 0] (rowMax arg1 (harg1.unread x0)) slices_S16x1_o8_0_S8x1

/-- The first eight shifted rows, block by block. -/
def xsA (k : Fin 32) : FVec F S8x1024 .f32 := shifted (mxA arg1 harg1 x0) (piece arg1 (harg1.unread x0) 0 (by decide) k)

/-- The last eight shifted rows, block by block. -/
def xsB (k : Fin 32) : FVec F S8x1024 .f32 := shifted (mxB arg1 harg1 x0) (piece arg1 (harg1.unread x0) 8 le_rfl k)

theorem eq_mxA : kernelRun0_A.sl.r_3 c arg1 harg1 x0 = mxA arg1 harg1 x0 := rfl

theorem eq_mxB : kernelRun0_A.sl.r_75 c arg1 harg1 x0 = mxB arg1 harg1 x0 := rfl

/-- The mass, slope and count at minus one of shifted rows. -/
def mass1 (p : Fin 32 → Vec F S8x1024 .f32) : FVec F S8x1 .f32 := total fun k => mulf (over1 (p k)) (over1 (p k))
def slope1 (p : Fin 32 → Vec F S8x1024 .f32) : FVec F S8x1 .f32 := total fun k => over1 (p k)
def count1 (p : Fin 32 → Vec F S8x1024 .f32) : FVec F S8x1 .f32 := total fun k => ones (over1 (p k))

theorem eq_massA : kernelRun0_A.sl.r_72 c arg1 harg1 x0 = mass1 (xsA arg1 harg1 x0) := rfl
theorem eq_slopeA : kernelRun0_A.sl.r_73 c arg1 harg1 x0 = slope1 (xsA arg1 harg1 x0) := rfl
theorem eq_countA : kernelRun0_A.sl.r_74 c arg1 harg1 x0 = count1 (xsA arg1 harg1 x0) := rfl
theorem eq_massB : kernelRun0_A.sl.r_143 c arg1 harg1 x0 = mass1 (xsB arg1 harg1 x0) := rfl
theorem eq_slopeB : kernelRun0_A.sl.r_144 c arg1 harg1 x0 = slope1 (xsB arg1 harg1 x0) := rfl
theorem eq_countB : kernelRun0_A.sl.r_145 c arg1 harg1 x0 = count1 (xsB arg1 harg1 x0) := rfl

/-- The stores of 32 blocks of eight rows, last first. -/
def stores (r0 : ℕ) (h : r0 ≤ 8) (g : Fin 32 → FVec F S8x1024 .f32) : (n : ℕ) → n ≤ 32 → List (View.Piece (Elt F) S16x32768 .f32)
  | 0, _ => []
  | n + 1, hn => ⟨rect8 r0 h ⟨n, hn⟩, g ⟨n, hn⟩⟩ :: stores r0 h g n (Nat.le_of_succ_le hn)

theorem eq_scratch : kernelRun0_A.sl.HS0_64 c arg1 harg1 x0
    = stores 8 le_rfl (fun k => shapeCast S8x1024 (xsB arg1 harg1 x0 k) shapeCasts_S8x1024_S8x1024) 32 le_rfl
      ++ stores 0 (by decide) (fun k => shapeCast S8x1024 (xsA arg1 harg1 x0 k) shapeCasts_S8x1024_S8x1024) 32 le_rfl := rfl

end Body

/-- What the loop carries, as two searches and the second's mass and slope. -/
abbrev Carry (F : FTy → Type) : Type := FVec F S8x1 .f32 × FVec F S8x1 .f32 × FVec F S8x1 .f32 × FVec F S8x1 .f32 × FVec F S8x1 .f32 × FVec F S8x1 .f32 × FVec F S8x1 .f32 × FVec F S8x1 .f32 × FVec F S8x1 .f32 × FVec F S8x1 .f32 × FVec F S8x1 .f32 × FVec F S8x1 .f32 × FVec F S8x1 .f32 × FVec F S8x1 .f32

def carry (a b : Search F) (f h : FVec F S8x1 .f32) : Carry F :=
  (a.t, a.tp, a.hp, a.np, a.lo, a.hi, b.t, b.tp, b.hp, b.np, b.lo, b.hi, f, h)

/-- One trip of the loop: the second half's step, the first half's sweep and step, the second half's sweep. -/
theorem trip_eq (𝒱 : Variants) (c : Dev nD) (bd : Option 𝒱.V) (i : grid0.Coords) (arg1 : Memref sig .tc .vmem S16x32768 .f32) (harg1 : arg1.IsWhole) (arg2 : Memref sig .tc .vmem S16x32768 .f32) (harg2 : arg2.IsWhole) (arg3 : Memref sig .tc .vmem S16x32768 .f32) (harg3 : arg3.IsWhole) (v742 v744 v746 v1424 v1426 v1428 v1429 v1430 v1432 v1433 : FVec F S8x1 .f32) (X : BufTy.Contents (Elt F) arg3.view.ty) (k : Fin k0_t1_loop.trips)
    (a b : Search F) (f h : FVec F S8x1 .f32) :
    tripR_k0_t1 (F := F) 𝒱 c bd i arg1 harg1 arg2 harg2 arg3 harg3 v742 v744 v746 v1424 v1426 v1428 v1429 v1430 v1432 v1433 X k (carry a b f h)
      = carry (a.step (massAt (piece arg3 X 0 (by decide)) a.t) (slopeAt (piece arg3 X 0 (by decide)) a.t)) (b.step f h)
          (massAt (piece arg3 X 8 le_rfl) (b.step f h).t) (slopeAt (piece arg3 X 8 le_rfl) (b.step f h).t) := by
  unfold tripR_k0_t1 trip_k0_t1
  rfl

/-- The first half's search, `n` steps on. -/
def stepsA (p : Fin 32 → Vec F S8x1024 .f32) (a : Search F) : ℕ → Search F
  | 0 => a
  | n + 1 => (stepsA p a n).step (massAt p (stepsA p a n).t) (slopeAt p (stepsA p a n).t)

/-- The second half's search, `n` steps on, with the mass and the slope at its point. -/
def stepsB (p : Fin 32 → Vec F S8x1024 .f32) (b : Search F) (f h : FVec F S8x1 .f32) : ℕ → Search F × FVec F S8x1 .f32 × FVec F S8x1 .f32
  | 0 => (b, f, h)
  | n + 1 => ((stepsB p b f h n).1.step (stepsB p b f h n).2.1 (stepsB p b f h n).2.2,
      massAt p ((stepsB p b f h n).1.step (stepsB p b f h n).2.1 (stepsB p b f h n).2.2).t,
      slopeAt p ((stepsB p b f h n).1.step (stepsB p b f h n).2.1 (stepsB p b f h n).2.2).t)

/-- Where a search begins, given the mass, slope and count at minus one: at minus one, between minus one and zero. -/
def start (f h n : FVec F S8x1 .f32) : Search F :=
  ⟨addf (col 0xBF800000#32) (mulf f (col 0x00000000#32)), addf (col 0xBF800000#32) (mulf f (col 0x00000000#32)), h, n,
    addf (col 0xBF800000#32) (mulf f (col 0x00000000#32)), addf (col 0x00000000#32) (mulf f (col 0x00000000#32))⟩

/-- A search's step with the count it is given. -/
def Search.first (s : Search F) (f h n : FVec F S8x1 .f32) : Search F :=
  ⟨next s.t s.lo s.hi f h n, s.t, h, n, lower s.t s.lo f, upper s.t s.hi f⟩

section Body

variable (c : Dev nD) (i : grid0.Coords) (arg1 : Memref sig .tc .vmem S16x32768 .f32) (harg1 : arg1.IsWhole)
  (arg2 : Memref sig .tc .vmem S16x32768 .f32) (harg2 : arg2.IsWhole) (arg3 : Memref sig .tc .vmem S16x32768 .f32)
  (harg3 : arg3.IsWhole) (x0 : Vec F S16x32768 .f32)

/-- The scratch buffer once the shifted rows are stored. -/
abbrev scratch : BufTy.Contents (Elt F) arg3.view.ty := arg3.view.writes (Elt F) arg3.view.junk (kernelRun0_A.sl.HS0_64 c arg1 harg1 x0)

/-- The first half's search after its first step, and the second half's before it. -/
def beginA : Search F := (start (mass1 (xsA arg1 harg1 x0)) (slope1 (xsA arg1 harg1 x0)) (count1 (xsA arg1 harg1 x0))).first
  (mass1 (xsA arg1 harg1 x0)) (slope1 (xsA arg1 harg1 x0)) (count1 (xsA arg1 harg1 x0))
def beginB : Search F := start (mass1 (xsB arg1 harg1 x0)) (slope1 (xsB arg1 harg1 x0)) (count1 (xsB arg1 harg1 x0))

/-- The first half's search after `n` trips. -/
def runA (n : ℕ) : Search F := stepsA (piece arg3 (scratch c arg1 harg1 arg3 x0) 0 (by decide)) (beginA arg1 harg1 x0) n

/-- The second half's search after `n` trips. -/
def runB (n : ℕ) : Search F × FVec F S8x1 .f32 × FVec F S8x1 .f32 :=
  stepsB (piece arg3 (scratch c arg1 harg1 arg3 x0) 8 le_rfl) (beginB arg1 harg1 x0)
    (mass1 (xsB arg1 harg1 x0)) (slope1 (xsB arg1 harg1 x0)) n

/-- What the loop carries after `n` trips. -/
theorem carried (n : ℕ) (hn : n ≤ 7) :
    st_k0_t1 (F := F) Variants.none c none i arg1 harg1 arg2 harg2 arg3 harg3 (kernelRun0_A.sl.r_72 c arg1 harg1 x0)
      (kernelRun0_A.sl.r_73 c arg1 harg1 x0) (kernelRun0_A.sl.r_74 c arg1 harg1 x0)
      (kernelRun0_A.sl.r_143 c arg1 harg1 x0) (kernelRun0_A.sl.r_144 c arg1 harg1 x0)
      (kernelRun0_A.sl.r_145 c arg1 harg1 x0) k0_pay447 k0_pay448 (kernelRun0_A.sl.r_146 c arg1 harg1 x0) k0_pay450
      (scratch c arg1 harg1 arg3 x0)
      (carry (beginA arg1 harg1 x0) (beginB arg1 harg1 x0) (mass1 (xsB arg1 harg1 x0)) (slope1 (xsB arg1 harg1 x0))) n
    = carry (runA c arg1 harg1 arg3 x0 n) (runB c arg1 harg1 arg3 x0 n).1 (runB c arg1 harg1 arg3 x0 n).2.1
        (runB c arg1 harg1 arg3 x0 n).2.2 := by
  induction n with
  | zero => rfl
  | succ n ih =>
    have ht : n < k0_t1_loop.trips := lt_of_lt_of_le hn (by decide)
    refine (st_k0_t1_succ (F := F) Variants.none c none i arg1 harg1 arg2 harg2 arg3 harg3 _ _ _ _ _ _ _ _ _ _ _ _ ⟨n, ht⟩).trans ?_
    rw [ih (Nat.le_of_succ_le hn), trip_eq]
    rfl

/-- The first half's threshold. -/
theorem eq_tauA : kernelRun0_A.sl.r_147 c i arg1 harg1 arg2 harg2 arg3 harg3 x0 = (runA c arg1 harg1 arg3 x0 7).t :=
  congrArg Prod.fst (carried c i arg1 harg1 arg2 harg2 arg3 harg3 x0 7 le_rfl)

/-- The second half's last step. -/
def lastB : Search F := (runB c arg1 harg1 arg3 x0 7).1.step (runB c arg1 harg1 arg3 x0 7).2.1 (runB c arg1 harg1 arg3 x0 7).2.2

/-- The second half's step, read off what the loop carries. -/
def lastOf (q : Carry F) : FVec F S8x1 .f32 :=
  ((⟨q.2.2.2.2.2.2.1, q.2.2.2.2.2.2.2.1, q.2.2.2.2.2.2.2.2.1, q.2.2.2.2.2.2.2.2.2.1, q.2.2.2.2.2.2.2.2.2.2.1,
    q.2.2.2.2.2.2.2.2.2.2.2.1⟩ : Search F).step q.2.2.2.2.2.2.2.2.2.2.2.2.1 q.2.2.2.2.2.2.2.2.2.2.2.2.2).t

/-- The second half's threshold. -/
theorem eq_tauB : kernelRun0_A.sl.r_156 c i arg1 harg1 arg2 harg2 arg3 harg3 x0 = (lastB c arg1 harg1 arg3 x0).t := by
  have h := congrArg lastOf (carried c i arg1 harg1 arg2 harg2 arg3 harg3 x0 7 le_rfl)
  exact h

/-- The square of the positive part of a block less a column. -/
def over2 (t : FVec F S8x1 .f32) (x : Vec F S8x1024 .f32) : FVec F S8x1024 .f32 := mulf (over t x) (over t x)

/-- The scratch's blocks, as the last sweeps load them. -/
def loaded (r0 : ℕ) (h : r0 ≤ 8) (k : Fin 32) : Vec F S8x1024 .f32 :=
  arg3.view.readCov (kernelRun0_A.sl.HS0_64 c arg1 harg1 x0) (rect8 r0 h k).toLoadRect

/-- The 64 stores of the output block. -/
theorem eq_stores : (kernelRun0_A c i arg1 harg1 arg2 harg2 arg3 harg3 x0).1
    = stores 8 le_rfl (fun k => over2 (kernelRun0_A.sl.r_156 c i arg1 harg1 arg2 harg2 arg3 harg3 x0) (loaded c arg1 harg1 arg3 x0 8 le_rfl k)) 32 le_rfl
      ++ stores 0 (by decide) (fun k => over2 (kernelRun0_A.sl.r_147 c i arg1 harg1 arg2 harg2 arg3 harg3 x0) (loaded c arg1 harg1 arg3 x0 0 (by decide) k)) 32 le_rfl := by
  unfold kernelRun0_A
  rfl

end Body

end Cert.KernelIdeal.Row

end
-- ==== Proof.Tsallis.Read.lean ====
/- What the body's stores leave, read back: the scratch holds the shifted rows, the output block the squares. -/
module

public import proofs.«01_k».proof.Proof.Tsallis.Run

@[expose] public section

noncomputable section

namespace Cert.KernelIdeal.Row

open Cert.KernelIdeal Cert.KernelIdeal.Gen Idealize.ShloMosaic Idealize.ShloMosaic.TcCoe Idealize.SL.Sem

variable {F : FTy → Type} [FloatOps F]

/-- An index in the `k`-th block of eight rows from `r0`, by its coordinates. -/
theorem mem_rect8 (r0 : ℕ) (h : r0 ≤ 8) (k : Fin 32) (y : S16x32768.Idx) :
    y ∈ (rect8 r0 h k).set ↔ (r0 ≤ (y 0).val ∧ (y 0).val < r0 + 8) ∧ (1024 * k.val ≤ (y 1).val ∧ (y 1).val < 1024 * k.val + 1024) := by
  rw [Rect.mem_set_unit]
  exact ⟨fun q => ⟨q 0, q 1⟩, fun q a => match a with | ⟨0, _⟩ => q.1 | ⟨1, _⟩ => q.2⟩

/-- The coordinates of the place an index of that block names. -/
theorem emb_rect8 (r0 : ℕ) (h : r0 ≤ 8) (k : Fin 32) (x : S8x1024.Idx) :
    (((rect8 r0 h k).emb x) 0).val = r0 + (x 0).val ∧ (((rect8 r0 h k).emb x) 1).val = 1024 * k.val + (x 1).val := by
  rw [Rect.emb_apply]
  exact ⟨by show r0 + 1 * (x 0).val = _; omega, by show 1024 * k.val + 1 * (x 1).val = _; omega⟩

theorem stores_succ (r0 : ℕ) (h : r0 ≤ 8) (g : Fin 32 → FVec F S8x1024 .f32) (L : List (View.Piece (Elt F) S16x32768 .f32))
    (n : ℕ) (hn : n + 1 ≤ 32) : stores r0 h g (n + 1) hn ++ L
      = ⟨rect8 r0 h ⟨n, hn⟩, g ⟨n, hn⟩⟩ :: (stores r0 h g n (Nat.le_of_succ_le hn) ++ L) := rfl

/-- Stores of other rows leave an index as it was. -/
theorem canon_skip [∀ e, Nonempty (Elt F e)] (r0 r1 : ℕ) (h0 : r0 ≤ 8) (h1 : r1 ≤ 8) (hne : r0 + 8 ≤ r1 ∨ r1 + 8 ≤ r0)
    (g : Fin 32 → FVec F S8x1024 .f32) (L : List (View.Piece (Elt F) S16x32768 .f32)) (k : Fin 32) (x : S8x1024.Idx) :
    ∀ (n : ℕ) (hn : n ≤ 32), View.canon (stores r1 h1 g n hn ++ L) ((rect8 r0 h0 k).emb x) = View.canon L ((rect8 r0 h0 k).emb x)
  | 0, _ => rfl
  | n + 1, hn => by
    rw [stores_succ]
    refine (View.canon_cons_of_not_mem _ _ ?_).trans (canon_skip r0 r1 h0 h1 hne g L k x n (Nat.le_of_succ_le hn))
    intro hm
    have hm := ((mem_rect8 r1 h1 ⟨n, hn⟩ _).1 hm).1
    rw [(emb_rect8 r0 h0 k x).1] at hm
    have : (x 0).val < 8 := (x 0).isLt
    omega

/-- The stores of eight rows, read where the `k`-th store wrote. -/
theorem canon_hit [∀ e, Nonempty (Elt F e)] (r0 : ℕ) (h0 : r0 ≤ 8) (g : Fin 32 → FVec F S8x1024 .f32)
    (L : List (View.Piece (Elt F) S16x32768 .f32)) (k : Fin 32) (x : S8x1024.Idx) :
    ∀ (n : ℕ) (hn : n ≤ 32), k.val < n → View.canon (stores r0 h0 g n hn ++ L) ((rect8 r0 h0 k).emb x) = g k x
  | 0, _, hk => absurd hk (Nat.not_lt_zero _)
  | n + 1, hn, hk => by
    rw [stores_succ]
    by_cases he : k.val = n
    · have hk' : (⟨n, hn⟩ : Fin 32) = k := Fin.ext he.symm
      rw [hk']
      exact View.canon_cons_emb (Val := Elt F) (e := .f32) (rect8 r0 h0 k) (g k) _ x
    · refine (View.canon_cons_of_not_mem _ _ ?_).trans (canon_hit r0 h0 g L k x n (Nat.le_of_succ_le hn) (by omega))
      intro hm
      have hm := ((mem_rect8 r0 h0 ⟨n, hn⟩ _).1 hm).2
      rw [(emb_rect8 r0 h0 k x).2] at hm
      dsimp only at hm
      have : (x 1).val < 1024 := (x 1).isLt
      omega

section Body

variable (c : Dev nD) (i : grid0.Coords) (arg1 : Memref sig .tc .vmem S16x32768 .f32) (harg1 : arg1.IsWhole)
  (arg2 : Memref sig .tc .vmem S16x32768 .f32) (harg2 : arg2.IsWhole) (arg3 : Memref sig .tc .vmem S16x32768 .f32)
  (harg3 : arg3.IsWhole) (x0 : Vec F S16x32768 .f32)

/-- The scratch holds the first eight shifted rows: what the loop reads of it, and the last sweep. -/
theorem piece_A [∀ e, Nonempty (Elt F e)] : piece arg3 (scratch c arg1 harg1 arg3 x0) 0 (by decide) = xsA arg1 harg1 x0 := by
  funext k x
  unfold piece scratch
  rw [View.readAt_writes_junk_eq_canon, eq_scratch]
  refine (canon_skip 0 8 _ _ (by decide) _ _ k x 32 le_rfl).trans ?_
  rw [← List.append_nil (stores 0 _ _ _ _)]
  refine (canon_hit 0 _ _ [] k x 32 le_rfl k.isLt).trans ?_
  rw [shapeCast_self]

theorem piece_B [∀ e, Nonempty (Elt F e)] : piece arg3 (scratch c arg1 harg1 arg3 x0) 8 le_rfl = xsB arg1 harg1 x0 := by
  funext k x
  unfold piece scratch
  rw [View.readAt_writes_junk_eq_canon, eq_scratch]
  refine (canon_hit 8 _ _ _ k x 32 le_rfl k.isLt).trans ?_
  rw [shapeCast_self]

theorem loaded_A [∀ e, Nonempty (Elt F e)] (k : Fin 32) : loaded c arg1 harg1 arg3 x0 0 (by decide) k = xsA arg1 harg1 x0 k := by
  rw [← piece_A c arg1 harg1 arg3 x0]; rfl

theorem loaded_B [∀ e, Nonempty (Elt F e)] (k : Fin 32) : loaded c arg1 harg1 arg3 x0 8 le_rfl k = xsB arg1 harg1 x0 k := by
  rw [← piece_B c arg1 harg1 arg3 x0]; rfl

/-- The first half's threshold, the search being that of the shifted rows. -/
def tauA : FVec F S8x1 .f32 := (stepsA (xsA arg1 harg1 x0) (beginA arg1 harg1 x0) 7).t

/-- The second half's threshold. -/
def tauB : FVec F S8x1 .f32 :=
  ((stepsB (xsB arg1 harg1 x0) (beginB arg1 harg1 x0) (mass1 (xsB arg1 harg1 x0)) (slope1 (xsB arg1 harg1 x0)) 7).1.step
    (stepsB (xsB arg1 harg1 x0) (beginB arg1 harg1 x0) (mass1 (xsB arg1 harg1 x0)) (slope1 (xsB arg1 harg1 x0)) 7).2.1
    (stepsB (xsB arg1 harg1 x0) (beginB arg1 harg1 x0) (mass1 (xsB arg1 harg1 x0)) (slope1 (xsB arg1 harg1 x0)) 7).2.2).t

/-- What the body leaves in the first eight rows of its output block. -/
theorem out_A [∀ e, Nonempty (Elt F e)] (k : Fin 32) (x : S8x1024.Idx) :
    out0_A_1 c i arg1 harg1 arg2 harg2 arg3 harg3 x0 ((rect8 0 (by decide) k).emb x)
      = over2 (tauA arg1 harg1 x0) (xsA arg1 harg1 x0 k) x := by
  unfold out0_A_1
  rw [View.read_writes_eq_canon _ _ _ (cover0_A_1 c i arg1 harg1 arg2 harg2 arg3 harg3 x0), eq_stores]
  refine (canon_skip 0 8 _ _ (by decide) _ _ k x 32 le_rfl).trans ?_
  rw [← List.append_nil (stores 0 _ _ _ _)]
  refine (canon_hit 0 _ _ [] k x 32 le_rfl k.isLt).trans ?_
  rw [loaded_A, eq_tauA]
  unfold runA
  rw [piece_A]; rfl

/-- What the body leaves in the last eight. -/
theorem out_B [∀ e, Nonempty (Elt F e)] (k : Fin 32) (x : S8x1024.Idx) :
    out0_A_1 c i arg1 harg1 arg2 harg2 arg3 harg3 x0 ((rect8 8 le_rfl k).emb x)
      = over2 (tauB arg1 harg1 x0) (xsB arg1 harg1 x0 k) x := by
  unfold out0_A_1
  rw [View.read_writes_eq_canon _ _ _ (cover0_A_1 c i arg1 harg1 arg2 harg2 arg3 harg3 x0), eq_stores]
  refine (canon_hit 8 _ _ _ k x 32 le_rfl k.isLt).trans ?_
  rw [loaded_B, eq_tauB]
  unfold lastB runB
  rw [piece_B]; rfl

end Body

end Cert.KernelIdeal.Row

end
-- ==== Proof.Tsallis.Mass.lean ====
/- The equation both programs solve: a row's mass over a threshold is one. How far a threshold can be from the root when
   its mass is off by a given amount, and the threshold a descending row's prefix sums give. -/
module

public import Idealize.ShloMosaic.PureOps.Ideal
public import Mathlib.Tactic.Linarith
public import Mathlib.Tactic.FieldSimp
public import Mathlib.Tactic.Ring

@[expose] public section

noncomputable section

namespace Cert.Tsallis

open Finset

/-- The part of a number over a threshold. -/
def over (x t : ℝ) : ℝ := max (x - t) 0

theorem over_nonneg (x t : ℝ) : 0 ≤ over x t := le_max_right _ _

/-- What a row weighs over a threshold: the sum of the squares. -/
def mass {ι : Type} [Fintype ι] (x : ι → ℝ) (t : ℝ) : ℝ := ∑ j, over (x j) t * over (x j) t

/-- The sum of a row's parts over a threshold. -/
def slope {ι : Type} [Fintype ι] (x : ι → ℝ) (t : ℝ) : ℝ := ∑ j, over (x j) t

/-- Of two thresholds the lower has the larger square, by at least their distance times the higher's. -/
theorem over_sq_gap {x t s : ℝ} (hx : x ≤ 0) (ht : -1 ≤ t) (hs : s ≤ 0) (hts : t ≤ s) :
    (s - t) * (over x s * over x s) ≤ over x t * over x t - over x s * over x s
    ∧ (s - t) * (over x t * over x t) ≤ over x t * over x t - over x s * over x s := by
  unfold over
  rcases le_total (x - t) 0 with h1 | h1
  · rw [max_eq_right h1, max_eq_right (by linarith : x - s ≤ 0)]; simp
  · rw [max_eq_left h1]
    rcases le_total (x - s) 0 with h2 | h2
    · rw [max_eq_right h2]
      constructor
      · nlinarith [mul_nonneg h1 h1]
      · have : (s - t) * ((x - t) * (x - t)) ≤ 1 * ((x - t) * (x - t)) :=
          mul_le_mul_of_nonneg_right (by linarith) (mul_nonneg h1 h1)
        linarith
    · rw [max_eq_left h2]
      have e : (x - t) * (x - t) - (x - s) * (x - s) = (s - t) * ((x - t) + (x - s)) := by ring
      rw [e]
      constructor
      · apply mul_le_mul_of_nonneg_left _ (by linarith)
        nlinarith
      · apply mul_le_mul_of_nonneg_left _ (by linarith)
        nlinarith

/-- Thresholds no further apart than the masses, one of them being one. -/
theorem gap {ι : Type} [Fintype ι] {x : ι → ℝ} {t s : ℝ} (hx : ∀ j, x j ≤ 0) (ht : -1 ≤ t) (ht0 : t ≤ 0) (hs : -1 ≤ s)
    (hs0 : s ≤ 0) (h : mass x s = 1) : |t - s| ≤ |mass x t - 1| := by
  rcases le_total t s with hts | hts
  · have k : (s - t) * mass x s ≤ mass x t - mass x s := by
      unfold mass
      rw [mul_sum, ← sum_sub_distrib]
      exact sum_le_sum fun j _ => (over_sq_gap (hx j) ht hs0 hts).1
    rw [h] at k
    rw [abs_of_nonpos (by linarith : t - s ≤ 0)]
    exact le_trans (by linarith) (le_abs_self _)
  · have k : (t - s) * mass x s ≤ mass x s - mass x t := by
      unfold mass
      rw [mul_sum, ← sum_sub_distrib]
      exact sum_le_sum fun j _ => (over_sq_gap (hx j) hs ht0 hts).2
    rw [h] at k
    rw [abs_of_nonneg (by linarith : 0 ≤ t - s)]
    exact le_trans (by linarith) (neg_le_abs _)

/-- There is one threshold of mass one between minus one and zero. -/
theorem root_unique {ι : Type} [Fintype ι] {x : ι → ℝ} {t s : ℝ} (hx : ∀ j, x j ≤ 0) (ht : -1 ≤ t) (ht0 : t ≤ 0)
    (hs : -1 ≤ s) (hs0 : s ≤ 0) (h : mass x s = 1) (h' : mass x t = 1) : t = s := by
  have := gap hx ht ht0 hs hs0 h
  rw [h', sub_self, abs_zero] at this
  linarith [abs_nonpos_iff.1 this]

theorem over_le {x t : ℝ} (hx : x ≤ 0) (ht : -1 ≤ t) : over x t ≤ 1 := max_le (by linarith) zero_le_one

theorem over_lip (x t s : ℝ) : |over x t - over x s| ≤ |t - s| := by
  unfold over
  refine (abs_max_sub_max_le_abs _ _ _).trans ?_
  rw [show x - t - (x - s) = -(t - s) by ring, abs_neg]

/-- An entry is off by at most twice what its row's sum is off one. -/
theorem entry_gap {ι : Type} [Fintype ι] {x : ι → ℝ} {t s : ℝ} (hx : ∀ j, x j ≤ 0) (ht : -1 ≤ t) (ht0 : t ≤ 0)
    (hs : -1 ≤ s) (hs0 : s ≤ 0) (h : mass x s = 1) (j : ι) :
    |over (x j) t * over (x j) t - over (x j) s * over (x j) s| ≤ 2 * |mass x t - 1| := by
  have e : over (x j) t * over (x j) t - over (x j) s * over (x j) s
      = (over (x j) t + over (x j) s) * (over (x j) t - over (x j) s) := by ring
  rw [e, abs_mul, abs_of_nonneg (add_nonneg (over_nonneg _ _) (over_nonneg _ _))]
  have h1 := over_le (hx j) ht
  have h2 := over_le (hx j) hs
  have h3 := (over_lip (x j) t s).trans (gap hx ht ht0 hs hs0 h)
  exact mul_le_mul (by linarith) h3 (abs_nonneg _) (by norm_num)

/-! ### The threshold of a descending row -/

section Sorted

variable (y : ℕ → ℝ)

/-- The mean of the first `k + 1` entries, and of their squares. -/
def mean (k : ℕ) : ℝ := (∑ i ∈ range (k + 1), y i) / (1 + k)
def meanSq (k : ℕ) : ℝ := (∑ i ∈ range (k + 1), y i * y i) / (1 + k)

/-- What is left of one, per entry, once the first `k + 1` entries' spread is taken. -/
def delta (k : ℕ) : ℝ := (1 - (1 + k) * (meanSq y k - mean y k * mean y k)) / (1 + k)

/-- The threshold if the first `k + 1` entries are the support. -/
def tau (k : ℕ) : ℝ := mean y k - √(max (delta y k) 0)

theorem pos_count (k : ℕ) : (0 : ℝ) < 1 + k := by positivity

/-- The squared distances of the first `k + 1` entries to a point. -/
def dist2 (k : ℕ) (t : ℝ) : ℝ := ∑ i ∈ range (k + 1), (y i - t) * (y i - t)

theorem dist2_eq (k : ℕ) (t : ℝ) :
    dist2 y k t = (1 + k) * ((t - mean y k) * (t - mean y k)) + 1 - (1 + k) * delta y k := by
  have h := pos_count k
  have e : dist2 y k t = ∑ i ∈ range (k + 1), y i * y i - 2 * t * ∑ i ∈ range (k + 1), y i + (1 + k) * (t * t) := by
    unfold dist2
    have : ∀ i, (y i - t) * (y i - t) = y i * y i - 2 * t * y i + t * t := fun i => by ring
    simp only [this, sum_add_distrib, sum_sub_distrib, ← mul_sum, sum_const, card_range, nsmul_eq_mul]
    push_cast; ring
  rw [e]
  unfold delta meanSq mean
  field_simp
  ring

variable {y} {n : ℕ} (hy : ∀ i j, i ≤ j → j < n → y j ≤ y i)

include hy in
/-- The mean of a descending row's first entries is no less than the last of them. -/
theorem le_mean {k : ℕ} (hk : k < n) : y k ≤ mean y k := by
  unfold mean
  rw [le_div_iff₀ (pos_count k)]
  have : ∑ _i ∈ range (k + 1), y k ≤ ∑ i ∈ range (k + 1), y i :=
    sum_le_sum fun i hi => hy i k (Nat.lt_succ_iff.1 (mem_range.1 hi)) hk
  rw [sum_const, card_range, nsmul_eq_mul] at this
  push_cast at this; linarith

include hy in
/-- The threshold lies under the last entry just when the entries lie close enough to it. -/
theorem tau_le_iff {k : ℕ} (hk : k < n) :
    (tau y k ≤ y k ↔ dist2 y k (y k) ≤ 1) ∧ (dist2 y k (y k) ≤ 1 → 0 ≤ delta y k) := by
  have hm := le_mean hy hk
  have hp := pos_count k
  have e := dist2_eq y k (y k)
  have hd : dist2 y k (y k) ≤ 1 ↔ (y k - mean y k) * (y k - mean y k) ≤ delta y k := by
    rw [e]
    constructor
    · intro h; by_contra hc; rw [not_le] at hc
      have := mul_lt_mul_of_pos_left hc hp; linarith
    · intro h; have := mul_le_mul_of_nonneg_left h hp.le; linarith
  have h0 : dist2 y k (y k) ≤ 1 → 0 ≤ delta y k := fun h => (mul_self_nonneg _).trans (hd.1 h)
  refine ⟨⟨fun h => ?_, fun h => ?_⟩, h0⟩
  · unfold tau at h
    have h1 : mean y k - y k ≤ √(max (delta y k) 0) := by linarith
    have h2 : (mean y k - y k) * (mean y k - y k) ≤ max (delta y k) 0 := by
      have := mul_self_le_mul_self (by linarith : 0 ≤ mean y k - y k) h1
      rwa [Real.mul_self_sqrt (le_max_right _ _)] at this
    rcases le_total 0 (delta y k) with hc | hc
    · rw [max_eq_left hc] at h2
      rw [hd]; nlinarith
    · -- then every entry is the mean
      rw [max_eq_right hc] at h2
      have hz : mean y k = y k := by nlinarith
      have hall : ∀ i ∈ range (k + 1), y i = y k := by
        have hs : ∑ i ∈ range (k + 1), (y i - y k) = 0 := by
          have : mean y k * (1 + k) = ∑ i ∈ range (k + 1), y i := div_mul_cancel₀ _ hp.ne'
          rw [sum_sub_distrib, sum_const, card_range, nsmul_eq_mul, ← this, hz]; push_cast; ring
        intro i hi
        have := (sum_eq_zero_iff_of_nonneg fun i hi =>
          sub_nonneg.2 (hy i k (Nat.lt_succ_iff.1 (mem_range.1 hi)) hk)).1 hs i hi
        linarith
      unfold dist2
      rw [sum_eq_zero fun i hi => by rw [hall i hi, sub_self, mul_zero]]
      exact zero_le_one
  · have h1 := hd.1 h
    have h2 := h0 h
    unfold tau
    rw [max_eq_left h2]
    have : mean y k - y k ≤ √(delta y k) := Real.le_sqrt_of_sq_le (by nlinarith)
    linarith

/-- The mass of a row's first `n` entries. -/
def massN (y : ℕ → ℝ) (n : ℕ) (t : ℝ) : ℝ := ∑ i ∈ range n, over (y i) t * over (y i) t

include hy in
/-- Over a threshold between an entry and the next, the mass is the squared distances of the entries up to it. -/
theorem massN_eq {k : ℕ} (hk : k < n) {t : ℝ} (h1 : t ≤ y k) (h2 : ∀ i, k < i → i < n → y i ≤ t) :
    massN y n t = dist2 y k t := by
  unfold massN dist2
  rw [← sum_subset (range_subset_range.2 hk : range (k + 1) ⊆ range n)]
  · refine sum_congr rfl fun i hi => ?_
    have := hy i k (Nat.lt_succ_iff.1 (mem_range.1 hi)) hk
    unfold over
    rw [max_eq_left (by linarith)]
  · intro i hi hi'
    have h3 := h2 i (by rw [mem_range] at hi'; omega) (mem_range.1 hi)
    unfold over
    rw [max_eq_right (by linarith), mul_zero]

/-- How many of the first `K` entries their threshold lies under. -/
def support (y : ℕ → ℝ) (K : ℕ) : ℕ := ((range K).filter fun k => tau y k ≤ y k).card

include hy in
theorem dist2_mono {k l : ℕ} (hkl : k ≤ l) (hl : l < n) : dist2 y k (y k) ≤ dist2 y l (y l) := by
  unfold dist2
  refine (sum_le_sum fun i hi => ?_).trans (sum_le_sum_of_subset_of_nonneg
    (range_subset_range.2 (Nat.succ_le_succ hkl)) fun i _ _ => mul_self_nonneg _)
  have h1 := hy i k (Nat.lt_succ_iff.1 (mem_range.1 hi)) (by omega)
  have h2 := hy k l hkl hl
  exact mul_self_le_mul_self (by linarith) (by linarith)

include hy in
/-- The entries their threshold lies under are the first ones, and the first is one. -/
theorem support_spec {K : ℕ} (hK : K ≤ n) (h0 : 0 < K) :
    0 < support y K ∧ support y K ≤ K ∧ (∀ k < support y K, dist2 y k (y k) ≤ 1)
      ∧ (support y K < K → 1 < dist2 y (support y K) (y (support y K))) := by
  have hf : ((range K).filter fun k => tau y k ≤ y k) = (range K).filter fun k => dist2 y k (y k) ≤ 1 :=
    filter_congr fun k hk => (tau_le_iff hy (lt_of_lt_of_le (mem_range.1 hk) hK)).1
  have hle : support y K ≤ K := by
    unfold support; exact (card_filter_le _ _).trans (card_range K).le
  have hdown : ∀ k l, k ≤ l → l < K → dist2 y l (y l) ≤ 1 → dist2 y k (y k) ≤ 1 :=
    fun k l hkl hl h => (dist2_mono hy hkl (lt_of_lt_of_le hl hK)).trans h
  have key : ∀ k < K, (dist2 y k (y k) ≤ 1 ↔ k < support y K) := by
    intro k hk
    constructor
    · intro h
      unfold support; rw [hf]
      have : range (k + 1) ⊆ (range K).filter fun k => dist2 y k (y k) ≤ 1 := by
        intro i hi
        have hik : i ≤ k := Nat.lt_succ_iff.1 (mem_range.1 hi)
        exact mem_filter.2 ⟨mem_range.2 (by omega), hdown i k hik hk h⟩
      have := card_le_card this
      rw [card_range] at this; omega
    · intro h
      by_contra hc
      have : ((range K).filter fun k => dist2 y k (y k) ≤ 1) ⊆ range k := by
        intro i hi
        obtain ⟨hi1, hi2⟩ := mem_filter.1 hi
        rw [mem_range] at *
        by_contra hki
        exact hc (hdown k i (by omega) hi1 hi2)
      have := card_le_card this
      rw [card_range, ← hf] at this
      unfold support at h; omega
  refine ⟨(key 0 h0).1 ?_, hle, fun k hk => (key k (lt_of_lt_of_le hk hle)).2 hk, fun h => ?_⟩
  · unfold dist2; simp
  · by_contra hc
    exact lt_irrefl _ ((key _ h).1 (not_lt.1 hc))

include hy in
/-- The threshold the support picks has mass one, if the support ends before the prefix does or the prefix is the row. -/
theorem tau_support {K : ℕ} (hK : K ≤ n) (h0 : 0 < K) (h : support y K < K ∨ K = n) :
    massN y n (tau y (support y K - 1)) = 1 ∧ tau y (support y K - 1) ≤ y 0 ∧ y 0 - 1 ≤ tau y (support y K - 1) := by
  obtain ⟨hs0, hsK, hin, hout⟩ := support_spec hy hK h0
  set l := support y K - 1 with hl
  have hlK : l < K := by omega
  have hln : l < n := by omega
  have hd := hin l (by omega)
  obtain ⟨hiff, hdel⟩ := tau_le_iff hy hln
  have hle := hiff.2 hd
  have hone : dist2 y l (tau y l) = 1 := by
    rw [dist2_eq]
    unfold tau
    rw [max_eq_left (hdel hd)]
    have : (mean y l - √(delta y l) - mean y l) * (mean y l - √(delta y l) - mean y l) = delta y l := by
      have := Real.mul_self_sqrt (hdel hd); nlinarith
    rw [this]; ring
  have hnext : ∀ i, l < i → i < n → y i ≤ tau y l := by
    intro i hi hin'
    have hlt : support y K < K := by
      rcases h with h | h
      · exact h
      · omega
    have hS : support y K = l + 1 := by omega
    refine (hy (l + 1) i hi hin').trans ?_
    by_contra hc
    rw [not_le] at hc
    have h1 := hout hlt
    rw [hS] at h1
    have h2 : dist2 y (l + 1) (y (l + 1)) = dist2 y l (y (l + 1)) := by
      unfold dist2; rw [sum_range_succ, sub_self, mul_zero, add_zero]
    have h3 : dist2 y l (y (l + 1)) ≤ dist2 y l (tau y l) := by
      unfold dist2
      refine sum_le_sum fun i hi => ?_
      have h4 := hy i (l + 1) (by have := mem_range.1 hi; omega) (by omega)
      exact mul_self_le_mul_self (by linarith) (by linarith)
    linarith
  have hm : massN y n (tau y l) = 1 := (massN_eq hy hln hle hnext).trans hone
  have hl0 : tau y l ≤ y 0 := hle.trans (hy 0 l (Nat.zero_le _) hln)
  refine ⟨hm, hl0, ?_⟩
  have : over (y 0) (tau y l) * over (y 0) (tau y l) ≤ massN y n (tau y l) :=
    single_le_sum (f := fun i => over (y i) (tau y l) * over (y i) (tau y l)) (fun i _ => mul_self_nonneg _)
      (mem_range.2 (by omega : 0 < n))
  rw [hm] at this
  unfold over at this
  rw [max_eq_left (by linarith)] at this
  nlinarith

end Sorted

end Cert.Tsallis

end
-- ==== Proof.Tsallis.Coe.lean ====
/- The operations of the extended reals on real numbers, and the shape operations both programs read at an index. -/
module

public import Idealize.ShloMosaic.PureOps.Ideal.Laws
public import Idealize.ShloMosaic.Lib.Routing.Ops
public import proofs.«01_k».proof.Proof.Tsallis.Mass

@[expose] public section

noncomputable section

namespace Cert.Tsallis

open Finset Idealize.ShloMosaic Idealize.ShloMosaic.Routing Idealize.ShloMosaic.ValueIdx

/-! ### Constants -/

theorem bits_zero : Ideal.ofBits .f32 0x00000000#32 = ((0 : ℝ) : EReal) := by simp [Ideal.ofBits, Ideal.ieee]
theorem bits_one : Ideal.ofBits .f32 0x3F800000#32 = ((1 : ℝ) : EReal) := by
  simp [Ideal.ofBits, Ideal.ieee, -EReal.coe_mul]; norm_num
theorem bits_neg_one : Ideal.ofBits .f32 0xBF800000#32 = ((-1 : ℝ) : EReal) := by
  simp [Ideal.ofBits, Ideal.ieee, -EReal.coe_mul, -EReal.coe_neg]; norm_num
theorem bits_half : Ideal.ofBits .f32 0x3F000000#32 = ((1 / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_bot : Ideal.ofBits .f32 0xFF800000#32 = ⊥ := by simp [Ideal.ofBits, Ideal.ieee]
theorem bits_top : Ideal.ofBits .f32 0x7F800000#32 = ⊤ := by simp [Ideal.ofBits, Ideal.ieee]

/-- The distance of two points below which the search keeps its count. -/
def eps : ℝ := (2 ^ 23 + 8104066 : ℕ) * (2 : ℝ) ^ (-39 : ℤ)

theorem bits_eps : Ideal.ofBits .f32 0x37FBA882#32 = ((eps : ℝ) : EReal) := by
  simp [Ideal.ofBits, Ideal.ieee, -EReal.coe_mul, eps]

/-! ### Operations -/

theorem div_coe (a : ℝ) {b : ℝ} (h : b ≠ 0) : Ideal.div (a : EReal) (b : EReal) = ((a / b : ℝ) : EReal) := by
  rw [Ideal.div, if_neg (by exact_mod_cast h), ← EReal.coe_inv, ← EReal.coe_mul, div_eq_mul_inv]

theorem sqrt_coe {a : ℝ} (h : 0 ≤ a) : Ideal.sqrt (a : EReal) = ((√a : ℝ) : EReal) := by
  rw [Ideal.sqrt_coe, if_neg (not_lt.2 h)]

theorem max_coe (a b : ℝ) : max (a : EReal) (b : EReal) = ((max a b : ℝ) : EReal) :=
  (EReal.coe_strictMono.monotone.map_max).symm

theorem abs_coe (a : ℝ) : max (a : EReal) (-(a : EReal)) = ((|a| : ℝ) : EReal) := by
  rw [← EReal.coe_neg, max_coe]; rfl

theorem ofBool_eq_one (b : Bool) : BitVec.ofBool b = 1#1 ↔ b = true := by cases b <;> decide

theorem cmp_oge (a b : ℝ) : Ideal.cmp .oge (a : EReal) (b : EReal) = 1#1 ↔ b ≤ a := by
  show BitVec.ofBool (decide ((b : EReal) ≤ a)) = 1#1 ↔ _
  rw [ofBool_eq_one, decide_eq_true_iff, EReal.coe_le_coe_iff]
theorem cmp_ole (a b : ℝ) : Ideal.cmp .ole (a : EReal) (b : EReal) = 1#1 ↔ a ≤ b := by
  show BitVec.ofBool (decide ((a : EReal) ≤ b)) = 1#1 ↔ _
  rw [ofBool_eq_one, decide_eq_true_iff, EReal.coe_le_coe_iff]
theorem cmp_ogt (a b : ℝ) : Ideal.cmp .ogt (a : EReal) (b : EReal) = 1#1 ↔ b < a := by
  show BitVec.ofBool (decide ((b : EReal) < a)) = 1#1 ↔ _
  rw [ofBool_eq_one, decide_eq_true_iff, EReal.coe_lt_coe_iff]
theorem cmp_oeq (a b : ℝ) : Ideal.cmp .oeq (a : EReal) (b : EReal) = 1#1 ↔ a = b := by
  show BitVec.ofBool (decide ((a : EReal) = b)) = 1#1 ↔ _
  rw [ofBool_eq_one, decide_eq_true_iff, EReal.coe_eq_coe_iff]

theorem and_eq_one (a b : BitVec 1) : IntOp.andi a b = 1#1 ↔ a = 1#1 ∧ b = 1#1 := by
  revert a b; decide

theorem select_coe (c : BitVec 1) (p : Prop) [Decidable p] (h : c = 1#1 ↔ p) (a b : ℝ) :
    Scalar.select c (a : EReal) (b : EReal) = ((if p then a else b : ℝ) : EReal) := by
  unfold Scalar.select
  by_cases hp : p
  · rw [if_pos hp]; exact if_pos (h.2 hp)
  · rw [if_neg hp]; exact if_neg fun e => hp (h.1 e)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- What has a magnitude below infinity is a real number. -/
theorem real_of_abs_lt (a : EReal) (h : Ideal.cmp .olt (max a (-a)) (Ideal.ofBits .f32 0x7F800000#32) = 1#1) : ∃ x : ℝ, a = (x : EReal) := by
  rw [bits_top] at h
  have h' : max a (-a) < (⊤ : EReal) := of_decide_eq_true ((ofBool_eq_one _).1 h)
  induction a with
  | bot => simp at h'
  | coe x => exact ⟨x, rfl⟩
  | top => simp at h'

/-- The maximum of real numbers, from minus infinity. -/
theorem fold_max_coe {ι : Type} [Fintype ι] (g : ι → EReal) (M : ℝ) (h1 : ∃ j, g j = M) (h2 : ∀ j, g j ≤ M) :
    (univ : Finset ι).fold max (⊥ : EReal) g = M := by
  apply le_antisymm
  · exact (fold_max_le _).2 ⟨bot_le, fun j _ => h2 j⟩
  · obtain ⟨j, hj⟩ := h1
    rw [le_fold_max]
    exact Or.inr ⟨j, mem_univ j, hj.ge⟩

/-! ### Shapes -/

/-- The index a row reduction reads at row `r` and position `k`. -/
theorem lift_row {n m : ℕ} (h : (shape2 n m).Reduces [1] (shape1 n)) (r : Fin n) (k : Fin m) : h.lift (ix1 r) k = ix2 r k := by
  funext a
  match a with
  | ⟨0, _⟩ => exact Fin.ext rfl
  | ⟨1, _⟩ => exact Fin.ext rfl

/-- A left fold of addition is a sum. -/
theorem foldl_add {ι : Type} (l : List ι) (g : ι → EReal) (z : EReal) : l.foldl (fun r a => r + g a) z = z + (l.map g).sum := by
  induction l generalizing z with
  | nil => simp
  | cons a l ih => rw [List.foldl_cons, ih, List.map_cons, List.sum_cons, add_assoc]

/-- A window that ends at position `j` sums what comes before. -/
theorem window_sum (f : ℕ → EReal) (m j : ℕ) (hj : j ≤ m) :
    ∑ w ∈ range (m + 1), (if m ≤ j + w then f (j + w - m) else 0) = ∑ i ∈ range (j + 1), f i := by
  obtain ⟨d, rfl⟩ : ∃ d, m = d + j := ⟨m - j, by omega⟩
  rw [show d + j + 1 = d + (j + 1) by omega, sum_range_add]
  rw [sum_eq_zero fun w hw => if_neg (by have := mem_range.1 hw; omega), zero_add]
  refine sum_congr rfl fun i _ => ?_
  rw [if_pos (by omega)]
  congr 1; omega

/-- A running sum along the rows of a matrix, at the extended reals. -/
theorem cumsum_rows {n N m : ℕ} (hN : m + 1 = N) (x : (shape2 n N).Idx → EReal) (f : ℕ → EReal) (r : Fin n)
    (hx : ∀ i : Fin N, x (ix2 r i) = f i.val)
    (h : (shape2 n N).ReduceWindows (![1, N] : Fin 2 → ℕ) ![1, 1] ![0, m] ![0, 0] (shape2 n N)) (j : Fin N) :
    Ideal.hostReduceWindowAdd ![1, N] ![1, 1] ![0, m] ![0, 0] h x 0 (ix2 r j) = ∑ i ∈ range (j.val + 1), f i := by
  subst hN
  have hj := j.isLt
  unfold Ideal.hostReduceWindowAdd Host.reduceWindow
  dsimp only
  rw [foldl_add, zero_add]
  refine (congrArg List.sum (List.map_congr_left
    (g := fun w : Fin (shape2 1 (m + 1)).numel => if m ≤ j.val + w.val then f (j.val + w.val - m) else 0)
    fun w _ => ?_)).trans ?_
  · have hw : w.val < m + 1 := lt_of_lt_of_eq w.isLt (numel2 _)
    have h0 : ((shape2 1 (m + 1)).rowMajor.symm w 0).val = 0 := by rw [symm2]; rfl
    have h1 : ((shape2 1 (m + 1)).rowMajor.symm w 1).val = w.val := by rw [symm2]; rfl
    by_cases hc : m ≤ j.val + w.val
    · rw [if_pos hc, dif_pos]
      · rw [show j.val + w.val - m = (⟨j.val + w.val - m, by omega⟩ : Fin (m + 1)).val from rfl, ← hx]
        refine congrArg x (funext fun a => Fin.ext ?_)
        match a with
        | ⟨0, _⟩ => show r.val * 1 + ((shape2 1 (m + 1)).rowMajor.symm w 0).val - 0 = r.val; omega
        | ⟨1, _⟩ =>
          show j.val * 1 + ((shape2 1 (m + 1)).rowMajor.symm w 1).val - m = j.val + w.val - m
          omega
      · intro a
        match a with
        | ⟨0, _⟩ =>
          refine ⟨Nat.zero_le _, ?_⟩
          show r.val * 1 + ((shape2 1 (m + 1)).rowMajor.symm w 0).val - 0 < n
          have := r.isLt; omega
        | ⟨1, _⟩ =>
          refine ⟨?_, ?_⟩
          · show m ≤ j.val * 1 + ((shape2 1 (m + 1)).rowMajor.symm w 1).val; omega
          · show j.val * 1 + ((shape2 1 (m + 1)).rowMajor.symm w 1).val - m < m + 1; omega
    · rw [if_neg hc, dif_neg]
      intro hin
      have h2 : m ≤ j.val * 1 + ((shape2 1 (m + 1)).rowMajor.symm w 1).val := (hin 1).1
      omega
  rw [← window_sum f m j.val (by omega), ← Fin.sum_univ_eq_sum_range (fun w => if m ≤ j.val + w then f (j.val + w - m) else 0),
    ← List.sum_ofFn, List.ofFn_eq_map]
  have hn : (shape2 1 (m + 1)).numel = m + 1 := numel2 _
  generalize (shape2 1 (m + 1)).numel = M at hn
  subst hn
  rfl

end Cert.Tsallis

end
-- ==== Proof.Tsallis.Search.lean ====
/- The root search over the real numbers, and its step on extended reals. -/
module

public import proofs.«01_k».proof.Proof.Tsallis.Coe

@[expose] public section

noncomputable section

namespace Cert.Tsallis

open Idealize.ShloMosaic

/-- What the search carries for one row: the point, the point before it, the slope and the count there, the bracket. -/
structure Point where
  t : ℝ
  tp : ℝ
  hp : ℝ
  np : ℝ
  lo : ℝ
  hi : ℝ

namespace Point

/-- The secant of the slope. -/
def secant (s : Point) (h : ℝ) : ℝ := (s.hp - h) / (if s.t - s.tp = 0 then 1 else s.t - s.tp)

/-- The count: the secant, where that can be trusted. -/
def count (s : Point) (h : ℝ) : ℝ := if eps ≤ |s.t - s.tp| ∧ 0 < s.secant h then s.secant h else s.np

def lower (s : Point) (f : ℝ) : ℝ := if 1 ≤ f then s.t else s.lo
def upper (s : Point) (f : ℝ) : ℝ := if 1 ≤ f then s.hi else s.t

/-- The discriminant of the quadratic of mass `f`, slope `h` and count `n`. -/
def disc (f h n : ℝ) : ℝ := h * h - n * (f - 1)

/-- The root of that quadratic, from the point. -/
def root (s : Point) (f h n : ℝ) : ℝ := s.t + (h - √(max (disc f h n) 0)) / max n 1

/-- The next point: the root where it is one and lies in the bracket, else the bracket's middle. -/
def next (s : Point) (f h n : ℝ) : ℝ :=
  if ((0 ≤ disc f h n ∧ 0 < n) ∧ s.lower f ≤ s.root f h n) ∧ s.root f h n ≤ s.upper f then s.root f h n
  else (s.lower f + s.upper f) * (1 / 2)

/-- One step of the search, at mass `f` and slope `h`. -/
def step (s : Point) (f h : ℝ) : Point := ⟨s.next f h (s.count h), s.t, h, s.count h, s.lower f, s.upper f⟩

/-- The point lies in the bracket, the bracket in `[-1, 0]`. -/
def Inside (s : Point) : Prop := -1 ≤ s.lo ∧ s.lo ≤ s.t ∧ s.t ≤ s.hi ∧ s.hi ≤ 0

theorem Inside.step {s : Point} (hs : s.Inside) (f h : ℝ) : (s.step f h).Inside := by
  obtain ⟨h1, h2, h3, h4⟩ := hs
  have hlo : -1 ≤ s.lower f ∧ s.lower f ≤ s.t := by unfold lower; split <;> constructor <;> linarith
  have hhi : s.t ≤ s.upper f ∧ s.upper f ≤ 0 := by unfold upper; split <;> constructor <;> linarith
  refine ⟨hlo.1, ?_, ?_, hhi.2⟩
  · show s.lower f ≤ s.next f h _
    unfold next; split
    · next hc => exact hc.1.2
    · linarith
  · show s.next f h _ ≤ s.upper f
    unfold next; split
    · next hc => exact hc.2
    · linarith

end Point

section Row

variable {ι : Type} [Fintype ι] (x : ι → ℝ)

/-- The number of entries above minus one. -/
def above : ℝ := ∑ j, if 0 < over (x j) (-1) then (1 : ℝ) else 0

/-- The search of a row after `n` steps. -/
def search : ℕ → Point
  | 0 => ⟨-1, -1, slope x (-1), above x, -1, 0⟩
  | n + 1 => (search n).step (mass x (search n).t) (slope x (search n).t)

theorem search_zero : search x 0 = ⟨-1, -1, slope x (-1), above x, -1, 0⟩ := rfl

theorem search_succ (n : ℕ) : search x (n + 1) = (search x n).step (mass x (search x n).t) (slope x (search x n).t) := rfl

theorem search_inside (n : ℕ) : (search x n).Inside := by
  induction n with
  | zero => exact ⟨le_rfl, le_rfl, by simp [search], le_rfl⟩
  | succ n ih => exact ih.step _ _

theorem search_ge (n : ℕ) : -1 ≤ (search x n).t := (search_inside x n).1.trans (search_inside x n).2.1
theorem search_le (n : ℕ) : (search x n).t ≤ 0 := (search_inside x n).2.2.1.trans (search_inside x n).2.2.2

end Row

/-! ### The same on extended reals -/

abbrev c0 : EReal := Ideal.ofBits .f32 0x00000000#32
abbrev c1 : EReal := Ideal.ofBits .f32 0x3F800000#32

theorem c0_eq : c0 = ((0 : ℝ) : EReal) := bits_zero
theorem c1_eq : c1 = ((1 : ℝ) : EReal) := bits_one

def secantE (t tp hp h : EReal) : EReal := Ideal.div (hp - h) (Scalar.select (Ideal.cmp .oeq (t - tp) c0) c1 (t - tp))
def countE (t tp hp np h : EReal) : EReal :=
  Scalar.select
    (IntOp.andi (Ideal.cmp .oge (max (t - tp) (-(t - tp))) (Ideal.ofBits .f32 0x37FBA882#32)) (Ideal.cmp .ogt (secantE t tp hp h) c0))
    (secantE t tp hp h) np
def lowerE (t lo f : EReal) : EReal := Scalar.select (Ideal.cmp .oge f c1) t lo
def upperE (t hi f : EReal) : EReal := Scalar.select (Ideal.cmp .oge f c1) hi t
def discE (f h n : EReal) : EReal := h * h - n * (f - c1)
def rootE (t f h n : EReal) : EReal := t + Ideal.div (h - Ideal.sqrt (max (discE f h n) c0)) (max n c1)
def nextE (t lo hi f h n : EReal) : EReal :=
  Scalar.select
    (IntOp.andi (IntOp.andi (IntOp.andi (Ideal.cmp .oge (discE f h n) c0) (Ideal.cmp .ogt n c0))
      (Ideal.cmp .oge (rootE t f h n) (lowerE t lo f))) (Ideal.cmp .ole (rootE t f h n) (upperE t hi f)))
    (rootE t f h n) ((lowerE t lo f + upperE t hi f) * Ideal.ofBits .f32 0x3F000000#32)

theorem secantE_coe (s : Point) (h : ℝ) : secantE s.t s.tp s.hp h = (s.secant h : ℝ) := by
  unfold secantE Point.secant
  rw [c0_eq, c1_eq, ← EReal.coe_sub, ← EReal.coe_sub, select_coe _ _ (cmp_oeq _ _), div_coe]
  split
  · exact one_ne_zero
  · assumption

theorem countE_coe (s : Point) (h : ℝ) : countE s.t s.tp s.hp s.np h = (s.count h : ℝ) := by
  unfold countE Point.count
  rw [secantE_coe, ← EReal.coe_sub, abs_coe, bits_eps, c0_eq]
  exact select_coe _ _ ((and_eq_one _ _).trans (and_congr (cmp_oge _ _) (cmp_ogt _ _))) _ _

theorem lowerE_coe (s : Point) (f : ℝ) : lowerE s.t s.lo f = (s.lower f : ℝ) := by
  unfold lowerE; rw [c1_eq]; exact select_coe _ _ (cmp_oge _ _) _ _

theorem upperE_coe (s : Point) (f : ℝ) : upperE s.t s.hi f = (s.upper f : ℝ) := by
  unfold upperE; rw [c1_eq]; exact select_coe _ _ (cmp_oge _ _) _ _

theorem discE_coe (f h n : ℝ) : discE f h n = (Point.disc f h n : ℝ) := by
  unfold discE Point.disc
  rw [c1_eq, EReal.coe_sub, EReal.coe_mul, EReal.coe_mul, EReal.coe_sub]

theorem rootE_coe (s : Point) (f h n : ℝ) : rootE s.t f h n = (s.root f h n : ℝ) := by
  unfold rootE Point.root
  rw [discE_coe, c0_eq, c1_eq, max_coe, max_coe, sqrt_coe (le_max_right _ _), ← EReal.coe_sub,
    div_coe _ (ne_of_gt (lt_of_lt_of_le one_pos (le_max_right _ _))), EReal.coe_add]

theorem nextE_coe (s : Point) (f h n : ℝ) : nextE s.t s.lo s.hi f h n = (s.next f h n : ℝ) := by
  unfold nextE Point.next
  rw [rootE_coe, discE_coe, lowerE_coe, upperE_coe, bits_half, c0_eq, ← EReal.coe_add, ← EReal.coe_mul]
  exact select_coe _ _ ((and_eq_one _ _).trans (and_congr ((and_eq_one _ _).trans (and_congr
    ((and_eq_one _ _).trans (and_congr (cmp_oge _ _) (cmp_ogt _ _))) (cmp_oge _ _))) (cmp_ole _ _))) _ _

/-- Extended reals that are a search's numbers. -/
def Is (s : Point) (t tp hp np lo hi : EReal) : Prop :=
  t = s.t ∧ tp = s.tp ∧ hp = s.hp ∧ np = s.np ∧ lo = s.lo ∧ hi = s.hi

/-- They stay so over a step. -/
theorem Is.step {s : Point} {t tp hp np lo hi : EReal} (hs : Is s t tp hp np lo hi) {f h : EReal} {f' h' : ℝ} (hf : f = f')
    (hh : h = h') : Is (s.step f' h') (nextE t lo hi f h (countE t tp hp np h)) t h (countE t tp hp np h) (lowerE t lo f)
      (upperE t hi f) := by
  obtain ⟨rfl, rfl, rfl, rfl, rfl, rfl⟩ := hs
  subst hf hh
  refine ⟨?_, rfl, rfl, countE_coe _ _, lowerE_coe _ _, upperE_coe _ _⟩
  rw [countE_coe]; exact nextE_coe _ _ _ _

/-- The same over a step with the count kept, where the two points are one. -/
theorem Is.first {s : Point} {t tp hp np lo hi : EReal} (hs : Is s t tp hp np lo hi) (ht : s.t = s.tp) {f h : EReal} {f' h' : ℝ}
    (hf : f = f') (hh : h = h') : Is (s.step f' h') (nextE t lo hi f h np) t h np (lowerE t lo f) (upperE t hi f) := by
  obtain ⟨rfl, rfl, rfl, rfl, rfl, rfl⟩ := hs
  subst hf hh
  have hc : s.count h' = s.np := by
    unfold Point.count
    rw [if_neg]
    rintro ⟨h, -⟩
    rw [ht, sub_self, abs_zero] at h
    exact absurd h (not_le.2 (by unfold eps; positivity))
  refine ⟨?_, rfl, rfl, ?_, lowerE_coe _ _, upperE_coe _ _⟩
  · show _ = (s.next f' h' (s.count h') : EReal)
    rw [hc]; exact nextE_coe _ _ _ _
  · show _ = (s.count h' : EReal)
    rw [hc]

end Cert.Tsallis

end
-- ==== Proof.Tsallis.Rows.lean ====
/- The kernel's block, read at the extended reals on a row of real numbers: its threshold is the real search's. -/
module

public import proofs.«01_k».proof.Proof.Tsallis.Read
public import proofs.«01_k».proof.Proof.Tsallis.Search
public import Idealize.ShloMosaic.Lib.Pipeline.Value

@[expose] public section

noncomputable section

namespace Cert.KernelIdeal.Row

open Finset Cert.KernelIdeal Cert.KernelIdeal.Gen Idealize.ShloMosaic Idealize.ShloMosaic.TcCoe Idealize.SL.Sem
open Idealize.ShloMosaic.Routing Idealize.ShloMosaic.ValueIdx
open Cert.Tsallis (Point Is search mass slope above)

/-- Lane `l` of block `k`. -/
def lane (k : Fin 32) (l : Fin 1024) : Fin 32768 := ⟨1024 * k.val + l.val, by have := k.isLt; have := l.isLt; omega⟩

/-- Block by block and lane by lane is once through the row. -/
theorem sum_lane (γ : Fin 32768 → ℝ) : ∑ l : Fin 1024, ∑ k : Fin 32, γ (lane k l) = ∑ j, γ j := by
  rw [sum_comm, ← Fintype.sum_prod_type']
  refine Fintype.sum_equiv (finProdFinEquiv (m := 32) (n := 1024)) _ _ fun p => congrArg γ (Fin.ext ?_)
  show 1024 * p.1.val + p.2.val = p.2.val + 1024 * p.1.val
  omega

/-- The sum of blocks at a lane. -/
theorem sumTo_coe (g : Fin 32 → FVec Ideal S8x1024 .f32) (γ : Fin 32768 → ℝ) (q : Fin 8) (l : Fin 1024)
    (h : ∀ k, g k (ix2 q l) = γ (lane k l)) :
    ∀ (n : ℕ) (hn : n ≤ 32), sumTo g n hn (ix2 q l) = ((∑ k : Fin n, γ (lane (k.castLE hn) l) : ℝ) : EReal)
  | 0, _ => Tsallis.bits_zero.trans (by simp)
  | n + 1, hn => by
    show sumTo g n _ (ix2 q l) + g ⟨n, hn⟩ (ix2 q l) = _
    rw [sumTo_coe g γ q l h n, h, Fin.sum_univ_castSucc, EReal.coe_add]
    rfl

/-- A column of one row, read from its vector. -/
theorem column_apply {α : Type} (v : S8.Idx → α) (q : Fin 8) : shapeCast S8x1 v shapeCasts_S8_S8x1 (ix2 q 0) = v (ix1 q) := by
  refine Idealize.ShloMosaic.shapeCast_apply _ _ _ _ ?_
  rw [Shape.rowMajor_val_one, Shape.rowMajor_val_two]
  show q.val = q.val * 1 + 0
  omega

theorem spread_apply (t : FVec Ideal S8x1 .f32) (q : Fin 8) (l : Fin 1024) :
    broadcastTo S8x1024 t broadcasts_S8x1_S8x1024 (ix2 q l) = t (ix2 q 0) := by
  refine Idealize.ShloMosaic.broadcastTo_apply _ _ _ _ fun a => ?_
  match a with
  | ⟨0, _⟩ => rfl
  | ⟨1, _⟩ => rfl

/-- A total along a row of real numbers is their sum. -/
theorem total_coe (g : Fin 32 → FVec Ideal S8x1024 .f32) (γ : Fin 32768 → ℝ) (q : Fin 8)
    (h : ∀ k l, g k (ix2 q l) = γ (lane k l)) : total g (ix2 q 0) = ((∑ j, γ j : ℝ) : EReal) := by
  unfold total
  rw [column_apply]
  refine (Ideal.multiReduction_add_single _ _ _ _ _ _).trans ?_
  rw [← sum_lane, Tsallis.coe_sum]
  refine sum_congr rfl fun l _ => ?_
  refine (congrArg (sumTo g 32 le_rfl) (Tsallis.lift_row _ q l)).trans ?_
  exact sumTo_coe g γ q l (fun k => h k l) 32 le_rfl

section Lanes

variable (p : Fin 32 → FVec Ideal S8x1024 .f32) (x : Fin 32768 → ℝ) (q : Fin 8) (hp : ∀ k l, p k (ix2 q l) = x (lane k l))

include hp

theorem over_coe (t : FVec Ideal S8x1 .f32) (τ : ℝ) (ht : t (ix2 q 0) = τ) (k : Fin 32) (l : Fin 1024) :
    over t (p k) (ix2 q l) = (Tsallis.over (x (lane k l)) τ : ℝ) := by
  show max (p k (ix2 q l) - broadcastTo S8x1024 t broadcasts_S8x1_S8x1024 (ix2 q l)) Tsallis.c0 = _
  rw [spread_apply, hp, ht, Tsallis.c0_eq, ← EReal.coe_sub, Tsallis.max_coe]; rfl

theorem over1_coe (k : Fin 32) (l : Fin 1024) : (over1 (F := Ideal) (p k) (ix2 q l) : EReal) = (Tsallis.over (x (lane k l)) (-1) : ℝ) := by
  show max (p k (ix2 q l) + Tsallis.c1) Tsallis.c0 = _
  rw [hp, Tsallis.c0_eq, Tsallis.c1_eq, ← EReal.coe_add, Tsallis.max_coe]
  unfold Tsallis.over
  rw [sub_neg_eq_add]

theorem massAt_coe (t : FVec Ideal S8x1 .f32) (τ : ℝ) (ht : t (ix2 q 0) = τ) : massAt p t (ix2 q 0) = (mass x τ : ℝ) :=
  total_coe _ (fun j => Tsallis.over (x j) τ * Tsallis.over (x j) τ) q fun k l => by
    show over t (p k) (ix2 q l) * over t (p k) (ix2 q l) = _
    rw [over_coe p x q hp t τ ht, EReal.coe_mul]

theorem slopeAt_coe (t : FVec Ideal S8x1 .f32) (τ : ℝ) (ht : t (ix2 q 0) = τ) : slopeAt p t (ix2 q 0) = (slope x τ : ℝ) :=
  total_coe _ (fun j => Tsallis.over (x j) τ) q fun k l => over_coe p x q hp t τ ht k l

theorem mass1_coe : (mass1 (F := Ideal) p (ix2 q 0) : EReal) = (mass x (-1) : ℝ) :=
  total_coe _ (fun j => Tsallis.over (x j) (-1) * Tsallis.over (x j) (-1)) q fun k l => by
    show over1 (F := Ideal) (p k) (ix2 q l) * over1 (F := Ideal) (p k) (ix2 q l) = _
    rw [over1_coe p x q hp, EReal.coe_mul]

theorem slope1_coe : (slope1 (F := Ideal) p (ix2 q 0) : EReal) = (slope x (-1) : ℝ) :=
  total_coe _ (fun j => Tsallis.over (x j) (-1)) q fun k l => over1_coe p x q hp k l

theorem count1_coe : (count1 (F := Ideal) p (ix2 q 0) : EReal) = (above x : ℝ) :=
  total_coe _ (fun j => if 0 < Tsallis.over (x j) (-1) then (1 : ℝ) else 0) q fun k l => by
    show Scalar.select (Ideal.cmp .ogt (over1 (F := Ideal) (p k) (ix2 q l)) Tsallis.c0) Tsallis.c1 Tsallis.c0 = _
    rw [over1_coe p x q hp, Tsallis.c0_eq, Tsallis.c1_eq]
    exact Tsallis.select_coe _ _ (Tsallis.cmp_ogt _ _) _ _

/-- Row `q` of eight searches is a search of real numbers. -/
def Agrees (q : Fin 8) (s : Search Ideal) (σ : Point) : Prop :=
  Is σ (s.t (ix2 q 0)) (s.tp (ix2 q 0)) (s.hp (ix2 q 0)) (s.np (ix2 q 0)) (s.lo (ix2 q 0)) (s.hi (ix2 q 0))

omit hp in
theorem Agrees.step {s : Search Ideal} {σ : Point} (hs : Agrees q s σ) (f h : FVec Ideal S8x1 .f32) (f' h' : ℝ)
    (hf : f (ix2 q 0) = f') (hh : h (ix2 q 0) = h') : Agrees q (s.step f h) (σ.step f' h') := Is.step hs hf hh

omit hp in
theorem Agrees.first {s : Search Ideal} {σ : Point} (hs : Agrees q s σ) (ht : σ.t = σ.tp) (f h : FVec Ideal S8x1 .f32) (f' h' : ℝ)
    (hf : f (ix2 q 0) = f') (hh : h (ix2 q 0) = h') : Agrees q (s.first f h s.np) (σ.step f' h') := Is.first hs ht hf hh

theorem agrees_start : Agrees q (start (mass1 p) (slope1 p) (count1 p)) (search x 0) := by
  have h1 : (Ideal.ofBits .f32 0xBF800000#32 + mass1 (F := Ideal) p (ix2 q 0) * Ideal.ofBits .f32 0x00000000#32 : EReal) = ((-1 : ℝ) : EReal) := by
    rw [Tsallis.bits_neg_one, Tsallis.bits_zero, EReal.coe_zero, mul_zero, add_zero]
  have h0 : (Ideal.ofBits .f32 0x00000000#32 + mass1 (F := Ideal) p (ix2 q 0) * Ideal.ofBits .f32 0x00000000#32 : EReal) = ((0 : ℝ) : EReal) := by
    rw [Tsallis.bits_zero, EReal.coe_zero, mul_zero, add_zero]
  unfold Agrees
  rw [Tsallis.search_zero]
  refine ⟨h1, h1, ?_, ?_, h1, h0⟩
  · have e1 : (start (mass1 p) (slope1 p) (count1 p) : Search Ideal).hp = slope1 (F := Ideal) p := rfl
    dsimp only
    rw [e1]
    exact slope1_coe p x q hp
  · have e2 : (start (mass1 p) (slope1 p) (count1 p) : Search Ideal).np = count1 (F := Ideal) p := rfl
    dsimp only
    rw [e2]
    exact count1_coe p x q hp

theorem agrees_first : Agrees q ((start (mass1 p) (slope1 p) (count1 p)).first (mass1 p) (slope1 p) (count1 p)) (search x (0 + 1)) :=
  (agrees_start p x q hp).first q rfl _ _ _ _ (mass1_coe p x q hp) (slope1_coe p x q hp)

theorem agrees_stepsA (n : ℕ) :
    Agrees q (stepsA p ((start (mass1 p) (slope1 p) (count1 p)).first (mass1 p) (slope1 p) (count1 p)) n) (search x (n + 1)) := by
  induction n with
  | zero => exact agrees_first p x q hp
  | succ n ih => exact ih.step q _ _ _ _ (massAt_coe p x q hp _ _ ih.1) (slopeAt_coe p x q hp _ _ ih.1)

theorem agrees_stepsB (n : ℕ) :
    Agrees q (stepsB p (start (mass1 p) (slope1 p) (count1 p)) (mass1 p) (slope1 p) n).1 (search x n)
    ∧ ((stepsB (F := Ideal) p (start (mass1 p) (slope1 p) (count1 p)) (mass1 p) (slope1 p) n).2.1 (ix2 q 0) : EReal) = (mass x (search x n).t : ℝ)
    ∧ ((stepsB (F := Ideal) p (start (mass1 p) (slope1 p) (count1 p)) (mass1 p) (slope1 p) n).2.2 (ix2 q 0) : EReal) = (slope x (search x n).t : ℝ) := by
  induction n with
  | zero => exact ⟨agrees_start p x q hp, mass1_coe p x q hp, slope1_coe p x q hp⟩
  | succ n ih =>
    have h := ih.1.step q _ _ _ _ ih.2.1 ih.2.2
    exact ⟨h, massAt_coe p x q hp _ _ h.1, slopeAt_coe p x q hp _ _ h.1⟩

end Lanes

section Block

variable (arg1 : Memref sig .tc .vmem S16x32768 .f32) (harg1 : arg1.IsWhole) (x0 : Vec Ideal S16x32768 .f32)

/-- A block of a buffer is that part of its contents. -/
theorem piece_apply (r0 : ℕ) (h : r0 ≤ 8) (k : Fin 32) (q : Fin 8) (l : Fin 1024) (R : Fin 16) (hR : R.val = r0 + q.val) :
    piece arg1 (harg1.unread x0) r0 h k (ix2 q l) = x0 (ix2 R (lane k l)) := by
  unfold piece
  rw [View.readAt_eq_ld, harg1.read_unread]
  refine congrArg x0 (funext fun a => Fin.ext ?_)
  match a with
  | ⟨0, _⟩ => show r0 + 1 * q.val = R.val; omega
  | ⟨1, _⟩ => show 1024 * k.val + 1 * l.val = 1024 * k.val + l.val; omega

theorem piece16_apply (k : Fin 32) (R : Fin 16) (l : Fin 1024) :
    View.readAt (Elt Ideal) arg1.view (Rect.unit (s := S16x32768) ![0, 1024 * k.val] S16x1024.size (inb16 k)).toLoadRect (harg1.unread x0)
      (ix2 R l) = x0 (ix2 R (lane k l)) := by
  rw [View.readAt_eq_ld, harg1.read_unread]
  refine congrArg x0 (funext fun a => Fin.ext ?_)
  match a with
  | ⟨0, _⟩ => show 0 + 1 * R.val = R.val; omega
  | ⟨1, _⟩ => show 1024 * k.val + 1 * l.val = 1024 * k.val + l.val; omega

variable (R : Fin 16) (M : EReal)

theorem maxTo_le (h2 : ∀ j, x0 (ix2 R j) ≤ M) (l : Fin 1024) :
    ∀ (n : ℕ) (hn : n < 32), maxTo arg1 (harg1.unread x0) n hn (ix2 R l) ≤ M
  | 0, hn => (piece16_apply arg1 harg1 x0 ⟨0, hn⟩ R l).trans_le (h2 _)
  | n + 1, hn => max_le (maxTo_le h2 l n _) ((piece16_apply arg1 harg1 x0 ⟨n + 1, hn⟩ R l).trans_le (h2 _))

theorem le_maxTo (k : Fin 32) (l : Fin 1024) :
    ∀ (n : ℕ) (hn : n < 32), k.val ≤ n → x0 (ix2 R (lane k l)) ≤ maxTo arg1 (harg1.unread x0) n hn (ix2 R l)
  | 0, hn, hk => by
    obtain rfl : k = ⟨0, hn⟩ := Fin.ext (Nat.le_zero.1 hk)
    exact (piece16_apply arg1 harg1 x0 _ R l).ge
  | n + 1, hn, hk => by
    by_cases he : k.val = n + 1
    · obtain rfl : k = ⟨n + 1, hn⟩ := Fin.ext he
      exact (piece16_apply arg1 harg1 x0 _ R l).ge.trans (le_max_right _ _)
    · exact (le_maxTo k l n _ (by omega)).trans (le_max_left _ _)

/-- The row maxima are the rows' maxima. -/
theorem rowMax_coe (h1 : ∃ j, x0 (ix2 R j) = M) (h2 : ∀ j, x0 (ix2 R j) ≤ M) :
    rowMax arg1 (harg1.unread x0) (ix2 R 0) = M := by
  unfold rowMax
  rw [Idealize.ShloMosaic.shapeCast_apply _ _ (ix2 R 0) (ix1 R) (by
    rw [Shape.rowMajor_val_one, Shape.rowMajor_val_two]; show R.val = R.val * 1 + 0; omega)]
  refine (Ideal.multiReduction_maximumf_single _ _ _ _ _ _).trans ?_
  apply le_antisymm
  · refine (fold_max_le _).2 ⟨?_, fun l _ => ?_⟩
    · exact Tsallis.bits_bot.trans_le bot_le
    · exact (congrArg _ (Tsallis.lift_row _ R l)).trans_le (maxTo_le arg1 harg1 x0 R M h2 l 31 _)
  · obtain ⟨j, hj⟩ := h1
    have hj' : lane ⟨j.val / 1024, by have := j.isLt; omega⟩ ⟨j.val % 1024, Nat.mod_lt _ (by decide)⟩ = j :=
      Fin.ext (Nat.div_add_mod j.val 1024)
    rw [le_fold_max]
    refine Or.inr ⟨⟨j.val % 1024, Nat.mod_lt _ (by decide)⟩, mem_univ _, ?_⟩
    refine le_trans ?_ (congrArg _ (Tsallis.lift_row _ R _)).ge
    have := le_maxTo arg1 harg1 x0 R ⟨j.val / 1024, by have := j.isLt; omega⟩ ⟨j.val % 1024, Nat.mod_lt _ (by decide)⟩ 31
      (by decide) (by have := j.isLt; show j.val / 1024 ≤ 31; omega)
    rwa [hj', hj] at this

variable (x : Fin 32768 → ℝ) (m : ℝ) (hx : ∀ j, x0 (ix2 R j) = x j) (h1 : ∃ j, x j = m) (h2 : ∀ j, x j ≤ m)

include hx h1 h2

/-- The first half's shifted rows. -/
theorem xsA_coe (q : Fin 8) (hR : R.val = q.val) (k : Fin 32) (l : Fin 1024) :
    xsA arg1 harg1 x0 k (ix2 q l) = (((x (lane k l) - m) * (1 / 2) : ℝ) : EReal) := by
  have hm : mxA arg1 harg1 x0 (ix2 q 0) = (m : EReal) := by
    unfold mxA
    rw [Idealize.ShloMosaic.extractStridedSlice_apply _ _ _ _ (ix2 R 0) fun a => match a with
      | ⟨0, _⟩ => hR.trans (Nat.zero_add _).symm
      | ⟨1, _⟩ => rfl]
    exact rowMax_coe arg1 harg1 x0 R m (h1.imp fun j hj => by rw [hx, hj]) fun j => by rw [hx]; exact EReal.coe_le_coe_iff.2 (h2 j)
  show (piece arg1 (harg1.unread x0) 0 _ k (ix2 q l) - broadcastTo S8x1024 (mxA arg1 harg1 x0) broadcasts_S8x1_S8x1024 (ix2 q l))
    * Ideal.ofBits .f32 0x3F000000#32 = _
  rw [spread_apply, hm, piece_apply arg1 harg1 x0 0 _ k q l R (by omega), hx, Tsallis.bits_half, EReal.coe_mul, EReal.coe_sub]

/-- The last half's shifted rows. -/
theorem xsB_coe (q : Fin 8) (hR : R.val = 8 + q.val) (k : Fin 32) (l : Fin 1024) :
    xsB arg1 harg1 x0 k (ix2 q l) = (((x (lane k l) - m) * (1 / 2) : ℝ) : EReal) := by
  have hm : mxB arg1 harg1 x0 (ix2 q 0) = (m : EReal) := by
    unfold mxB
    rw [Idealize.ShloMosaic.extractStridedSlice_apply _ _ _ _ (ix2 R 0) fun a => match a with
      | ⟨0, _⟩ => hR
      | ⟨1, _⟩ => rfl]
    exact rowMax_coe arg1 harg1 x0 R m (h1.imp fun j hj => by rw [hx, hj]) fun j => by rw [hx]; exact EReal.coe_le_coe_iff.2 (h2 j)
  show (piece arg1 (harg1.unread x0) 8 _ k (ix2 q l) - broadcastTo S8x1024 (mxB arg1 harg1 x0) broadcasts_S8x1_S8x1024 (ix2 q l))
    * Ideal.ofBits .f32 0x3F000000#32 = _
  rw [spread_apply, hm, piece_apply arg1 harg1 x0 8 _ k q l R hR, hx, Tsallis.bits_half, EReal.coe_mul, EReal.coe_sub]

/-- The body's output block on a row of real numbers: the squares over the real search's threshold. -/
theorem out_coe (c : Dev nD) (i : grid0.Coords) (arg2 : Memref sig .tc .vmem S16x32768 .f32) (harg2 : arg2.IsWhole)
    (arg3 : Memref sig .tc .vmem S16x32768 .f32) (harg3 : arg3.IsWhole) (j : Fin 32768) :
    out0_A_1 c i arg1 harg1 arg2 harg2 arg3 harg3 x0 (ix2 R j)
      = ((Tsallis.over ((x j - m) * (1 / 2)) (search (fun j => (x j - m) * (1 / 2)) 8).t
          * Tsallis.over ((x j - m) * (1 / 2)) (search (fun j => (x j - m) * (1 / 2)) 8).t : ℝ) : EReal) := by
  obtain ⟨k, l, rfl⟩ : ∃ k l, j = lane k l :=
    ⟨⟨j.val / 1024, by have := j.isLt; omega⟩, ⟨j.val % 1024, Nat.mod_lt _ (by decide)⟩, Fin.ext (Nat.div_add_mod j.val 1024).symm⟩
  by_cases hr : R.val < 8
  · have hp := xsA_coe arg1 harg1 x0 R x m hx h1 h2 ⟨R.val, hr⟩ rfl
    have ht : tauA arg1 harg1 x0 (ix2 ⟨R.val, hr⟩ 0) = ((search (fun j => (x j - m) * (1 / 2)) 8).t : EReal) :=
      (agrees_stepsA (xsA arg1 harg1 x0) (fun j => (x j - m) * (1 / 2)) _ hp 7).1
    have he : (ix2 R (lane k l) : S16x32768.Idx) = (rect8 0 (by decide) k).emb (ix2 (⟨R.val, hr⟩ : Fin 8) l) := by
      funext a
      apply Fin.ext
      match a with
      | ⟨0, _⟩ => exact ((emb_rect8 0 (by decide) k (ix2 (⟨R.val, hr⟩ : Fin 8) l)).1.trans (Nat.zero_add _)).symm
      | ⟨1, _⟩ => exact (emb_rect8 0 (by decide) k (ix2 (⟨R.val, hr⟩ : Fin 8) l)).2.symm
    rw [he, out_A]
    show over (tauA arg1 harg1 x0) (xsA arg1 harg1 x0 k) _ * over (tauA arg1 harg1 x0) (xsA arg1 harg1 x0 k) _ = _
    rw [over_coe (xsA arg1 harg1 x0) (fun j => (x j - m) * (1 / 2)) ⟨R.val, hr⟩ hp _ _ ht, EReal.coe_mul]
  · have hq : R.val - 8 < 8 := by have := R.isLt; omega
    have hp := xsB_coe arg1 harg1 x0 R x m hx h1 h2 ⟨R.val - 8, hq⟩ (by show R.val = 8 + (R.val - 8); omega)
    have hb := agrees_stepsB (xsB arg1 harg1 x0) (fun j => (x j - m) * (1 / 2)) _ hp 7
    have ht : tauB arg1 harg1 x0 (ix2 ⟨R.val - 8, hq⟩ 0) = ((search (fun j => (x j - m) * (1 / 2)) 8).t : EReal) :=
      (hb.1.step _ _ _ _ _ hb.2.1 hb.2.2).1
    have he : (ix2 R (lane k l) : S16x32768.Idx) = (rect8 8 le_rfl k).emb (ix2 (⟨R.val - 8, hq⟩ : Fin 8) l) := by
      funext a
      apply Fin.ext
      match a with
      | ⟨0, _⟩ =>
        refine (Eq.trans (emb_rect8 8 le_rfl k (ix2 (⟨R.val - 8, hq⟩ : Fin 8) l)).1 ?_).symm
        show 8 + (R.val - 8) = R.val; omega
      | ⟨1, _⟩ => exact (emb_rect8 8 le_rfl k (ix2 (⟨R.val - 8, hq⟩ : Fin 8) l)).2.symm
    rw [he, out_B]
    show over (tauB arg1 harg1 x0) (xsB arg1 harg1 x0 k) _ * over (tauB arg1 harg1 x0) (xsB arg1 harg1 x0 k) _ = _
    rw [over_coe (xsB arg1 harg1 x0) (fun j => (x j - m) * (1 / 2)) ⟨R.val - 8, hq⟩ hp _ _ ht, EReal.coe_mul]

end Block

end Cert.KernelIdeal.Row

end
-- ==== Proof.Tsallis.Whole.lean ====
/- The kernel's result array on a row of real numbers. -/
module

public import proofs.«01_k».proof.Proof.Tsallis.Rows

@[expose] public section

noncomputable section

namespace Cert.KernelIdeal.Row

open Cert.KernelIdeal Cert.KernelIdeal.Gen Idealize.ShloMosaic Idealize.ShloMosaic.TcCoe Idealize.SL.Sem
open Idealize.ShloMosaic.Routing Idealize.ShloMosaic.ValueIdx
open Cert.Tsallis (search)

variable (m : (ℓ : Loc nD τ sig) → Buf (Elt Ideal) ℓ) (c : Dev nD)

/-- The input block at a grid point is 16 rows of the argument. -/
theorem iblk_apply (t : Fin cfg0.N) (r : Fin 16) (j : Fin 32768) (R : Fin 64) (hR : R.val = 16 * t.val + r.val) :
    (iblk m c 0 t : Vec Ideal S16x32768 .f32) (ix2 r j) = (m ((c : Thread nD τ).loc main_arg0) : Vec Ideal S64x32768 .f32) (ix2 R j) := by
  have hi : win0_0.index t 0 = t.val ∧ win0_0.index t 1 = 0 := by
    rcases fin_N0 t with rfl | rfl | rfl | rfl <;> decide
  unfold iblk
  rw [View.read_apply]
  show V m c main_arg0 _ = m (c.tc.loc main_arg0) _
  unfold V
  congr 1
  funext a
  apply Fin.ext
  match a with
  | ⟨0, _⟩ => show win0_0.index t 0 * 16 + 1 * r.val = R.val; rw [hi.1]; omega
  | ⟨1, _⟩ => show win0_0.index t 1 * 32768 + 1 * j.val = j.val; rw [hi.2]; omega

/-- The result at a row is what the row's grid point leaves in its output block. -/
theorem result_apply (t : Fin cfg0.N) (r : Fin 16) (j : Fin 32768) (R : Fin 64) (hR : R.val = 16 * t.val + r.val) :
    ((dats m 0 c).arrAt 1 cfg0.N : Vec Ideal S64x32768 .f32) (ix2 R j)
      = out0_A_1 c (grid0.coords t) (ms0_0 t) (hs0_0 t) (ms0_1 t) (hs0_1 t) scM0_0 (Memref.isWhole_whole _) (iblk m c 0 t) (ix2 r j) := by
  have hi : win0_1.index t 0 = t.val ∧ win0_1.index t 1 = 0 := by
    rcases fin_N0 t with rfl | rfl | rfl | rfl <;> decide
  have hs : win0_1.xsize (grid0.coords t) 0 = 16 ∧ win0_1.xsize (grid0.coords t) 1 = 32768 := by
    rcases fin_N0 t with rfl | rfl | rfl | rfl <;> decide +kernel
  have h := (Value.blocks1 m c t (flush0_1 t)).trans (Value.flushed1_A m c t)
  generalize out0_A_1 c (grid0.coords t) (ms0_0 t) (hs0_0 t) (ms0_1 t) (hs0_1 t) scM0_0 (Memref.isWhole_whole _) (iblk m c 0 t) = B at h ⊢
  generalize (dats m 0 c).arrAt 1 cfg0.N = A at h ⊢
  have hy : ∃ y : ((cfg0.win 1).xblock (grid0.coords t)).Idx, (y 0).val = r.val ∧ (y 1).val = j.val :=
    ⟨fun a => match a with
      | ⟨0, _⟩ => ⟨r.val, lt_of_lt_of_eq r.isLt hs.1.symm⟩
      | ⟨1, _⟩ => ⟨j.val, lt_of_lt_of_eq j.isLt hs.2.symm⟩, rfl, rfl⟩
  obtain ⟨y, hy0, hy1⟩ := hy
  have h1 := congrFun h y
  rw [View.read_apply] at h1
  have hA : ((cfg0.win 1).blk t).view.emb y = (ix2 R j : S64x32768.Idx) := by
    funext a
    apply Fin.ext
    match a with
    | ⟨0, _⟩ => show win0_1.index t 0 * 16 + 1 * (y 0).val = R.val; rw [hi.1, hy0]; omega
    | ⟨1, _⟩ => show win0_1.index t 1 * 32768 + 1 * (y 1).val = j.val; rw [hi.2, hy1]; omega
  have hB : (cfg0.win 1).cut (grid0.coords t) B y = B (ix2 r j) := by
    show B _ = B _
    congr 1
    funext a
    apply Fin.ext
    match a with
    | ⟨0, _⟩ => exact hy0
    | ⟨1, _⟩ => exact hy1
  rw [hA, hB] at h1
  exact h1

/-- On a row of real numbers the result is the squares over the real search's threshold. -/
theorem result_coe (R : Fin 64) (x : Fin 32768 → ℝ) (μ : ℝ)
    (hx : ∀ j, (m ((c : Thread nD τ).loc main_arg0) : Vec Ideal S64x32768 .f32) (ix2 R j) = ((x j : ℝ) : EReal)) (h1 : ∃ j, x j = μ) (h2 : ∀ j, x j ≤ μ)
    (j : Fin 32768) :
    ((dats m 0 c).arrAt 1 cfg0.N : Vec Ideal S64x32768 .f32) (ix2 R j)
      = ((Tsallis.over ((x j - μ) * (1 / 2)) (search (fun j => (x j - μ) * (1 / 2)) 8).t
          * Tsallis.over ((x j - μ) * (1 / 2)) (search (fun j => (x j - μ) * (1 / 2)) 8).t : ℝ) : EReal) := by
  have ht : R.val / 16 < cfg0.N := by
    have hN : cfg0.N = 4 := N_0
    have := R.isLt; omega
  have hR : R.val = 16 * (⟨R.val / 16, ht⟩ : Fin cfg0.N).val + (⟨R.val % 16, Nat.mod_lt _ (by decide)⟩ : Fin 16).val :=
    (Nat.div_add_mod R.val 16).symm
  rw [result_apply m c ⟨R.val / 16, ht⟩ ⟨R.val % 16, Nat.mod_lt _ (by decide)⟩ j R hR]
  exact out_coe _ _ _ _ x μ (fun j => (iblk_apply m c _ _ j R hR).trans (hx j)) h1 h2 c _ _ _ _ _ j

end Cert.KernelIdeal.Row

end
-- ==== Proof.Tsallis.Host.lean ====
/- The host's row reductions and broadcasts, read at an index. -/
module

public import Idealize.ShloMosaic.Lib.ReduceAll
public import Idealize.ShloMosaic.Lib.Pipeline.Value
public import proofs.«01_k».proof.Proof.Tsallis.Coe

@[expose] public section

noncomputable section

namespace Cert.Tsallis

open Finset Idealize.ShloMosaic Idealize.ShloMosaic.Routing Idealize.ShloMosaic.ValueIdx

/-- The one-element shape of the reductions' starting values. -/
abbrev pt : Shape := ⟨0, ![]⟩

section Reduce

variable {n m : ℕ} (h : (shape2 n m).Reduces [1] (shape1 n)) (h' : (shape2 n m).ReducesTo [1] (shape1 n)) (hu : 0 < pt.numel) (r : Fin n)

include h

/-- A row's maximum, of real numbers. -/
theorem rowmax_coe (X : FVec Ideal (shape2 n m) .f32) (μ : ℝ) (h1 : ∃ j, X (ix2 r j) = (μ : EReal)) (h2 : ∀ j, X (ix2 r j) ≤ (μ : EReal)) :
    Host.reduce (FloatOps.maximumf (F := Ideal) (φ := .f32)) X (constant (F := Ideal) pt .f32 0xFF800000#32) h' hu (ix1 r) = (μ : EReal) := by
  refine (Host.reduce_eq_fold_single (FloatOps.maximumf (F := Ideal) (φ := .f32)) X _ h' h hu (ix1 r)).trans ?_
  have e : (X ∘ h.lift (ix1 r)) = fun k => X (ix2 r k) := funext fun k => congrArg X (lift_row h r k)
  rw [e]
  refine Eq.trans ?_ (fold_max_coe (fun k => X (ix2 r k)) μ h1 h2)
  show Finset.fold max (Ideal.ofBits .f32 0xFF800000#32) _ _ = _
  rw [bits_bot]
  rfl

/-- A row's sum, of real numbers. -/
theorem rowsum_coe (X : FVec Ideal (shape2 n m) .f32) (x : Fin m → ℝ) (hx : ∀ j, X (ix2 r j) = (x j : EReal)) :
    (Host.reduceAdd X (constant (F := Ideal) pt .f32 0x00000000#32) h' hu (ix1 r) : EReal) = ((∑ j, x j : ℝ) : EReal) := by
  refine (Ideal.hostReduceAdd_single h' h X _ (ix1 r)).trans ?_
  rw [coe_sum]
  refine Eq.trans (congrArg₂ (· + ·) (bits_zero.trans EReal.coe_zero) (sum_congr rfl fun k _ => ?_)) (zero_add _)
  exact (congrArg X (lift_row h r k)).trans (hx k)

/-- A row all of whose bits are set. -/
theorem rowand_eq_one (p : IVec (shape2 n m) 1) (e : Host.reduce IntOp.andi p (constantI pt 1 1#1) h' hu (ix1 r) = 1#1) (j : Fin m) :
    p (ix2 r j) = 1#1 := by
  rw [Host.reduce_eq_fold_single IntOp.andi p _ h' h hu (ix1 r)] at e
  have e' : (p ∘ h.lift (ix1 r)) = fun k => p (ix2 r k) := funext fun k => congrArg p (lift_row h r k)
  rw [e'] at e
  have key : ∀ s : Finset (Fin m), s.fold IntOp.andi (constantI pt 1 1#1 (Shape.Idx.first hu)) (fun k => p (ix2 r k)) = 1#1 →
      ∀ k ∈ s, p (ix2 r k) = 1#1 := by
    classical
    intro s
    induction s using Finset.induction_on with
    | empty => intro _ k hk; exact absurd hk (notMem_empty k)
    | insert a s ha ih =>
      intro hs k hk
      rw [fold_insert ha, and_eq_one] at hs
      rcases mem_insert.1 hk with rfl | hk
      · exact hs.1
      · exact ih hs.2 k hk
  exact key univ e j (mem_univ j)

/-- The same the other way. -/
theorem rowand_of_all (p : IVec (shape2 n m) 1) (hp : ∀ j, p (ix2 r j) = 1#1) :
    Host.reduce IntOp.andi p (constantI pt 1 1#1) h' hu (ix1 r) = 1#1 := by
  rw [Host.reduce_eq_fold_single IntOp.andi p _ h' h hu (ix1 r)]
  have e' : (p ∘ h.lift (ix1 r)) = fun k => p (ix2 r k) := funext fun k => congrArg p (lift_row h r k)
  rw [e']
  have key : ∀ s : Finset (Fin m), s.fold IntOp.andi (constantI pt 1 1#1 (Shape.Idx.first hu)) (fun k => p (ix2 r k)) = 1#1 := by
    classical
    intro s
    induction s using Finset.induction_on with
    | empty => rfl
    | insert a s ha ih => rw [fold_insert ha, ih, hp]; rfl
  exact key univ

end Reduce

/-- A column repeated along its rows. -/
theorem spread {α : Type} {n m : ℕ} (h : (shape2 n 1).BroadcastsInDim (shape2 n m) (![0, 1] : Fin 2 → Fin (shape2 n m).rank)) (v : (shape2 n 1).Idx → α)
    (r : Fin n) (j : Fin m) : broadcastInDim (shape2 n m) ![0, 1] h v (ix2 r j) = v (ix2 r 0) := by
  refine Idealize.ShloMosaic.broadcastInDim_apply _ _ _ _ _ fun a => ?_
  match a with
  | ⟨0, _⟩ =>
    show r.val = if n = 1 then 0 else r.val
    split
    · have := r.isLt; omega
    · rfl
  | ⟨1, _⟩ => rfl

/-- A vector as a column. -/
theorem column {α : Type} {n : ℕ} (h : (shape1 n).BroadcastsInDim (shape2 n 1) (![0] : Fin 1 → Fin (shape2 n 1).rank)) (v : (shape1 n).Idx → α)
    (r : Fin n) : broadcastInDim (shape2 n 1) ![0] h v (ix2 r 0) = v (ix1 r) := by
  refine Idealize.ShloMosaic.broadcastInDim_apply _ _ _ _ _ fun a => ?_
  match a with
  | ⟨0, _⟩ =>
    show r.val = if n = 1 then 0 else r.val
    split
    · have := r.isLt; omega
    · rfl

/-- A row repeated down its columns, from a vector. -/
theorem stack {α : Type} {n m : ℕ} (h : (shape1 m).BroadcastsInDim (shape2 1 m) (![1] : Fin 1 → Fin (shape2 1 m).rank))
    (h' : (shape2 1 m).BroadcastsInDim (shape2 n m) (![0, 1] : Fin 2 → Fin (shape2 n m).rank)) (v : (shape1 m).Idx → α) (r : Fin n) (j : Fin m) :
    broadcastInDim (shape2 n m) ![0, 1] h' (broadcastInDim (shape2 1 m) ![1] h v) (ix2 r j) = v (ix1 j) := by
  refine (Idealize.ShloMosaic.broadcastInDim_apply _ _ _ _ (ix2 0 j) fun a => ?_).trans
    (Idealize.ShloMosaic.broadcastInDim_apply _ _ _ _ _ fun a => ?_)
  · match a with
    | ⟨0, _⟩ => rfl
    | ⟨1, _⟩ =>
      show j.val = if m = 1 then 0 else j.val
      split
      · have := j.isLt; omega
      · rfl
  · match a with
    | ⟨0, _⟩ =>
      show j.val = if m = 1 then 0 else j.val
      split
      · have := j.isLt; omega
      · rfl

end Cert.Tsallis

end
-- ==== Proof.Tsallis.Mask.lean ====
/- What the mask of settled rows says of a row, over the extended reals. -/
module

public import proofs.«01_k».proof.On_settled
public import proofs.«01_k».proof.Proof.Tsallis.Search
public import proofs.«01_k».proof.Proof.Tsallis.Host

@[expose] public section

noncomputable section

namespace Cert.On_settled

open Finset Idealize.ShloMosaic Idealize.ShloMosaic.Routing Idealize.ShloMosaic.ValueIdx
open Cert.Tsallis (over mass slope search Is Point above c0 c1 nextE countE lowerE upperE)

/-- The six columns the mask's search carries. -/
abbrev Columns : Type :=
  FVec Ideal S64x1 .f32 × FVec Ideal S64x1 .f32 × FVec Ideal S64x1 .f32 × FVec Ideal S64x1 .f32 × FVec Ideal S64x1 .f32 × FVec Ideal S64x1 .f32

theorem reduces_row : (shape2 64 32768).Reduces [1] (shape1 64) := by decide

variable [Facts]
open Facts

/-- One of the mask's steps on its columns. -/
def advance (xs : FVec Ideal S64x32768 .f32) (p : Columns) : Columns :=
  fn_step (F := Ideal) xs p.1 p.2.1 p.2.2.1 p.2.2.2.1 p.2.2.2.2.1 p.2.2.2.2.2

/-- The row maxima. -/
def rowMax (X : FVec Ideal S64x32768 .f32) : FVec Ideal S64 .f32 :=
  Host.reduce (FloatOps.maximumf (F := Ideal) (φ := .f32)) X (constant S_ .f32 0xFF800000#32) reducesTo_S64x32768_S64_d1 h_S_

/-- The shifted and halved rows. -/
def shifted (X : FVec Ideal S64x32768 .f32) : FVec Ideal S64x32768 .f32 :=
  mulf (subf X (broadcastInDim S64x32768 ![0, 1] bcast_S64x1_S64x32768_0_1 (broadcastInDim S64x1 ![0] bcast_S64_S64x1_0 (rowMax X))))
    (broadcastInDim S64x32768 ![] bcast_S_S64x32768 (constant (F := Ideal) S_ .f32 0x3F000000#32))

def splat (b : BitVec 32) : FVec Ideal S64x1 .f32 := broadcastInDim S64x1 ![] bcast_S_S64x1 (constant (F := Ideal) S_ .f32 b)
def splatRow (b : BitVec 32) : FVec Ideal S64x32768 .f32 := broadcastInDim S64x32768 ![] bcast_S_S64x32768 (constant (F := Ideal) S_ .f32 b)

/-- Per entry, whether it is above minus one. -/
def aboveE (xs : FVec Ideal S64x32768 .f32) : FVec Ideal S64x32768 .f32 :=
  select (cmpf .ogt (maximumf (addf xs (splatRow 0x3F800000#32)) (splatRow 0x00000000#32)) (splatRow 0x00000000#32)) (splatRow 0x3F800000#32)
    (splatRow 0x00000000#32)

/-- The columns the mask's search starts from. -/
def start (xs : FVec Ideal S64x32768 .f32) : Columns :=
  (splat 0xBF800000#32, splat 0xBF800000#32, fn_slope (F := Ideal) xs (splat 0xBF800000#32),
    broadcastInDim S64x1 ![0] bcast_S64_S64x1_0 (Host.reduceAdd (aboveE xs) (constant S_ .f32 0x00000000#32) reducesTo_S64x32768_S64_d1 h_S_),
    splat 0xBF800000#32, splat 0x00000000#32)

/-- The columns after the mask's eight steps. -/
def final (xs : FVec Ideal S64x32768 .f32) : Columns :=
  advance xs (advance xs (advance xs (advance xs (advance xs (advance xs (advance xs (advance xs (start xs))))))))

/-- Whether a row's entries are real numbers. -/
def realRow (X : FVec Ideal S64x32768 .f32) : IVec S64 1 :=
  Host.reduce IntOp.andi (cmpf .olt (Host.absf X) (splatRow 0x7F800000#32)) (constantI S_ 1 1#1) reducesTo_S64x32768_S64_d1 h_S_

/-- The mask is the conjunction of the two facts, along a row. -/
theorem fn_eq (X : FVec Ideal S64x32768 .f32) : fn (F := Ideal) X = broadcastInDim S64x32768 ![0, 1] bcast_S64x1_S64x32768_0_1
    (andi (broadcastInDim S64x1 ![0] bcast_S64_S64x1_0 (realRow X))
      (cmpf .oeq (fn_mass (F := Ideal) (shifted X) (final (shifted X)).1) (splat 0x3F800000#32))) := rfl

section Row

variable (R : Fin 64) (xs : FVec Ideal S64x32768 .f32) (x : Fin 32768 → ℝ) (hx : ∀ j, xs (ix2 R j) = (x j : EReal))

include hx

theorem over_coe (t : FVec Ideal S64x1 .f32) (τ : ℝ) (ht : t (ix2 R 0) = (τ : EReal)) (j : Fin 32768) :
    maximumf (subf xs (broadcastInDim S64x32768 ![0, 1] bcast_S64x1_S64x32768_0_1 t)) (splatRow 0x00000000#32) (ix2 R j)
      = ((over (x j) τ : ℝ) : EReal) := by
  show max (xs (ix2 R j) - broadcastInDim S64x32768 ![0, 1] bcast_S64x1_S64x32768_0_1 t (ix2 R j)) (Ideal.ofBits .f32 0x00000000#32) = _
  rw [Tsallis.spread bcast_S64x1_S64x32768_0_1 t R j, hx, ht, Tsallis.bits_zero, ← EReal.coe_sub, Tsallis.max_coe]
  rfl

theorem mass_coe (t : FVec Ideal S64x1 .f32) (τ : ℝ) (ht : t (ix2 R 0) = (τ : EReal)) :
    fn_mass (F := Ideal) xs t (ix2 R 0) = ((mass x τ : ℝ) : EReal) := by
  unfold fn_mass
  dsimp only
  rw [Tsallis.column bcast_S64_S64x1_0 _ R]
  refine Tsallis.rowsum_coe reduces_row _ _ R _ (fun j => over (x j) τ * over (x j) τ) fun j => ?_
  rw [EReal.coe_mul, ← over_coe R xs x hx t τ ht j]
  rfl

theorem slope_coe (t : FVec Ideal S64x1 .f32) (τ : ℝ) (ht : t (ix2 R 0) = (τ : EReal)) :
    fn_slope (F := Ideal) xs t (ix2 R 0) = ((slope x τ : ℝ) : EReal) := by
  unfold fn_slope
  dsimp only
  rw [Tsallis.column bcast_S64_S64x1_0 _ R]
  exact Tsallis.rowsum_coe reduces_row _ _ R _ (fun j => over (x j) τ) fun j => over_coe R xs x hx t τ ht j

/-- The columns hold a search's numbers at the row. -/
def At (R : Fin 64) (s : Point) (p : Columns) : Prop :=
  Is s (p.1 (ix2 R 0)) (p.2.1 (ix2 R 0)) (p.2.2.1 (ix2 R 0)) (p.2.2.2.1 (ix2 R 0)) (p.2.2.2.2.1 (ix2 R 0)) (p.2.2.2.2.2 (ix2 R 0))

theorem start_at : At R (search x 0) (start xs) := by
  rw [Tsallis.search_zero]
  unfold At start Is
  dsimp only
  have hb : splat 0xBF800000#32 (ix2 R 0) = ((-1 : ℝ) : EReal) := Tsallis.bits_neg_one
  refine ⟨hb, hb, slope_coe R xs x hx (splat 0xBF800000#32) (-1) hb, ?_, hb, Tsallis.bits_zero⟩
  rw [Tsallis.column bcast_S64_S64x1_0 _ R]
  refine Tsallis.rowsum_coe reduces_row _ _ R _ (fun j => if 0 < over (x j) (-1) then (1 : ℝ) else 0) fun j => ?_
  show Scalar.select (Ideal.cmp .ogt (max (xs (ix2 R j) + Ideal.ofBits .f32 0x3F800000#32) (Ideal.ofBits .f32 0x00000000#32))
    (Ideal.ofBits .f32 0x00000000#32)) (Ideal.ofBits .f32 0x3F800000#32) (Ideal.ofBits .f32 0x00000000#32) = _
  rw [hx, Tsallis.bits_one, Tsallis.bits_zero, ← EReal.coe_add, Tsallis.max_coe, Tsallis.select_coe _ _ (Tsallis.cmp_ogt _ _)]
  simp only [over, sub_neg_eq_add]

set_option maxRecDepth 100000 in
theorem advance_at (n : ℕ) (p : Columns) (hp : At R (search x n) p) : At R (search x (n + 1)) (advance xs p) := by
  have hm := mass_coe R xs x hx p.1 _ hp.1
  have hs := slope_coe R xs x hx p.1 _ hp.1
  rw [Tsallis.search_succ]
  have k := Is.step hp hm hs
  rw [show nextE (p.1 (ix2 R 0)) (p.2.2.2.2.1 (ix2 R 0)) (p.2.2.2.2.2 (ix2 R 0)) (fn_mass (F := Ideal) xs p.1 (ix2 R 0))
      (fn_slope (F := Ideal) xs p.1 (ix2 R 0)) (countE (p.1 (ix2 R 0)) (p.2.1 (ix2 R 0)) (p.2.2.1 (ix2 R 0)) (p.2.2.2.1 (ix2 R 0))
        (fn_slope (F := Ideal) xs p.1 (ix2 R 0))) = (advance xs p).1 (ix2 R 0) from rfl,
    show countE (p.1 (ix2 R 0)) (p.2.1 (ix2 R 0)) (p.2.2.1 (ix2 R 0)) (p.2.2.2.1 (ix2 R 0)) (fn_slope (F := Ideal) xs p.1 (ix2 R 0))
      = (advance xs p).2.2.2.1 (ix2 R 0) from rfl,
    show lowerE (p.1 (ix2 R 0)) (p.2.2.2.2.1 (ix2 R 0)) (fn_mass (F := Ideal) xs p.1 (ix2 R 0)) = (advance xs p).2.2.2.2.1 (ix2 R 0) from rfl,
    show upperE (p.1 (ix2 R 0)) (p.2.2.2.2.2 (ix2 R 0)) (fn_mass (F := Ideal) xs p.1 (ix2 R 0)) = (advance xs p).2.2.2.2.2 (ix2 R 0) from rfl,
    show p.1 (ix2 R 0) = (advance xs p).2.1 (ix2 R 0) from rfl,
    show fn_slope (F := Ideal) xs p.1 (ix2 R 0) = (advance xs p).2.2.1 (ix2 R 0) from rfl] at k
  exact k

theorem final_at : At R (search x 8) (final xs) :=
  advance_at R xs x hx _ _ (advance_at R xs x hx _ _ (advance_at R xs x hx _ _ (advance_at R xs x hx _ _
    (advance_at R xs x hx _ _ (advance_at R xs x hx _ _ (advance_at R xs x hx _ _ (advance_at R xs x hx _ _ (start_at R xs x hx))))))))

end Row

theorem and_at (A : IVec S64x1 1) (M : FVec Ideal S64x1 .f32) (R : Fin 64) :
    andi A (cmpf .oeq M (splat 0x3F800000#32)) (ix2 R 0) = IntOp.andi (A (ix2 R 0)) (Ideal.cmp .oeq (M (ix2 R 0)) c1) := rfl

/-- The two facts the mask's bit at a row gives. -/
theorem fn_facts (X : FVec Ideal S64x32768 .f32) (R : Fin 64) (j : Fin 32768) (h : fn (F := Ideal) X (ix2 R j) = 1#1) :
    realRow X (ix1 R) = 1#1 ∧ Ideal.cmp .oeq (fn_mass (F := Ideal) (shifted X) (final (shifted X)).1 (ix2 R 0)) c1 = 1#1 := by
  rw [fn_eq, Tsallis.spread bcast_S64x1_S64x32768_0_1 _ R j] at h
  rw [and_at, Tsallis.column bcast_S64_S64x1_0 _ R] at h
  exact (Tsallis.and_eq_one _ _).1 h

/-- A row on which the mask is set is of real numbers. -/
theorem real_of_fn (X : FVec Ideal S64x32768 .f32) (R : Fin 64) (j : Fin 32768) (h : fn (F := Ideal) X (ix2 R j) = 1#1) (k : Fin 32768) :
    ∃ x : ℝ, X (ix2 R k) = (x : EReal) :=
  Tsallis.real_of_abs_lt _ (Tsallis.rowand_eq_one reduces_row _ _ R _ (fn_facts X R j h).1 k)

/-- The shifted row, of real numbers. -/
theorem shifted_coe (X : FVec Ideal S64x32768 .f32) (R : Fin 64) (x : Fin 32768 → ℝ) (μ : ℝ) (hx : ∀ j, X (ix2 R j) = (x j : EReal))
    (h1 : ∃ j, x j = μ) (h2 : ∀ j, x j ≤ μ) (j : Fin 32768) : shifted X (ix2 R j) = (((x j - μ) * (1 / 2) : ℝ) : EReal) := by
  show (X (ix2 R j) - broadcastInDim S64x32768 ![0, 1] bcast_S64x1_S64x32768_0_1 (broadcastInDim S64x1 ![0] bcast_S64_S64x1_0 (rowMax X)) (ix2 R j))
    * Ideal.ofBits .f32 0x3F000000#32 = _
  rw [Tsallis.spread bcast_S64x1_S64x32768_0_1 _ R j, Tsallis.column bcast_S64_S64x1_0 _ R]
  have hm : rowMax X (ix1 R) = (μ : EReal) := by
    obtain ⟨i, hi⟩ := h1
    exact Tsallis.rowmax_coe reduces_row _ _ R X μ ⟨i, by rw [hx, hi]⟩ fun j => by rw [hx]; exact EReal.coe_le_coe_iff.2 (h2 j)
  rw [hm, hx, Tsallis.bits_half, EReal.coe_mul, EReal.coe_sub]

/-- On a row on which the mask is set, the search's threshold leaves a mass of one. -/
theorem mass_of_fn (X : FVec Ideal S64x32768 .f32) (R : Fin 64) (j : Fin 32768) (h : fn (F := Ideal) X (ix2 R j) = 1#1) (x : Fin 32768 → ℝ)
    (μ : ℝ) (hx : ∀ j, X (ix2 R j) = (x j : EReal)) (h1 : ∃ j, x j = μ) (h2 : ∀ j, x j ≤ μ) :
    mass (fun j => (x j - μ) * (1 / 2)) (search (fun j => (x j - μ) * (1 / 2)) 8).t = 1 := by
  have e := (fn_facts X R j h).2
  have hs := shifted_coe X R x μ hx h1 h2
  rw [mass_coe R (shifted X) (fun j => (x j - μ) * (1 / 2)) hs (final (shifted X)).1 _ (final_at R (shifted X) (fun j => (x j - μ) * (1 / 2)) hs).1,
    Tsallis.c1_eq] at e
  exact (Tsallis.cmp_oeq _ _).1 e

end Cert.On_settled

end
-- ==== Proof.Tsallis.Sorted.lean ====
/- A row in descending order, as a sort and a top-k leave it. -/
module

public import Idealize.ShloMosaic.Lib.SortFacts
public import proofs.«01_k».proof.Proof.Tsallis.Host

@[expose] public section

noncomputable section

namespace Cert.Tsallis

open Finset Idealize.ShloMosaic Idealize.ShloMosaic.Routing Idealize.ShloMosaic.ValueIdx

variable {n : ℕ}

/-- Where the entry at a place of the descending row comes from. -/
def place (x : Fin n → ℝ) : Fin n → Fin n := sortedFrom fun k k' => decide (x k' < x k)

/-- The row in descending order, zero past its end. -/
def sorted (x : Fin n → ℝ) (i : ℕ) : ℝ := if h : i < n then x (place x ⟨i, h⟩) else 0

theorem sorted_val (x : Fin n → ℝ) (i : Fin n) : sorted x i.val = x (place x i) := dif_pos i.isLt

/-- It descends. -/
theorem sorted_anti (x : Fin n → ℝ) (i j : ℕ) (hij : i ≤ j) (hj : j < n) : sorted x j ≤ sorted x i := by
  rcases hij.eq_or_lt with rfl | hlt
  · exact le_rfl
  unfold sorted
  rw [dif_pos hj, dif_pos (hlt.trans hj)]
  have h := sortedFrom_noInversion (fun k k' => decide (x k' < x k)) (fun k k' => decide (x k' < x k))
    (fun a b h => by simp only [decide_eq_true_eq, decide_eq_false_iff_not] at h ⊢; linarith) (fun _ _ h => h)
    (fun a b c h h' => by simp only [decide_eq_false_iff_not] at h h' ⊢; linarith) ⟨i, hlt.trans hj⟩ ⟨j, hj⟩ hlt
  simp only [decide_eq_false_iff_not] at h
  exact not_lt.1 h

/-- It weighs what the row weighs. -/
theorem massN_sorted (x : Fin n → ℝ) (t : ℝ) : massN (sorted x) n t = mass x t := by
  unfold massN mass
  rw [← Fin.sum_univ_eq_sum_range (fun i => over (sorted x i) t * over (sorted x i) t) n]
  refine (sum_congr rfl fun i _ => by rw [sorted_val]).trans ?_
  exact Fintype.sum_bijective (place x) ⟨sortedFrom_injective _, sortedFrom_surjective _⟩ _ _ fun i => rfl

/-- It starts at the row's greatest entry. -/
theorem sorted_zero (x : Fin n → ℝ) (M : ℝ) (h1 : ∃ j, x j = M) (h2 : ∀ j, x j ≤ M) : sorted x 0 = M := by
  obtain ⟨j, hj⟩ := h1
  obtain ⟨i, hi⟩ := sortedFrom_surjective (fun k k' => decide (x k' < x k)) j
  have h0 : 0 < n := lt_of_le_of_lt (Nat.zero_le _) i.isLt
  apply le_antisymm
  · unfold sorted; rw [dif_pos h0]; exact h2 _
  · have h := sorted_anti x 0 i.val (Nat.zero_le _) i.isLt
    rw [sorted_val, show place x i = j from hi, hj] at h
    exact h

section Rows

variable {a : ℕ} (r : Fin a) (X : (shape2 a n).Idx → EReal) (x : Fin n → ℝ) (hx : ∀ j, X (ix2 r j) = (x j : EReal))

theorem along_row (h : 1 < (shape2 a n).rank) (j k : Fin n) :
    Shape.Idx.along (s := shape2 a n) (ix2 r j) (⟨1, h⟩ : Fin (shape2 a n).rank) (k : Fin n) = ix2 r k := by
  funext b
  match b with
  | ⟨0, _⟩ => rfl
  | ⟨1, _⟩ => rfl

/-- What a sort of two operands leaves in a row of the first. -/
theorem sort2_row {β : Type} (cmp : EReal × β → EReal × β → BitVec 1) (y : (shape2 a n).Idx → β) (i : Fin n) :
    (Host.sort2 (shape2 a n) 1 cmp X y).1 (ix2 r i)
      = X (ix2 r (sortedFrom (fun k k' => cmp (X (ix2 r k), y (ix2 r k)) (X (ix2 r k'), y (ix2 r k')) == 1#1) i)) := by
  have h1 : 1 < (shape2 a n).rank := Nat.one_lt_two
  have e : ∀ k : Fin n, Shape.Idx.along (s := shape2 a n) (ix2 r i) (⟨1, h1⟩ : Fin (shape2 a n).rank) k = ix2 r k := along_row r h1 i
  unfold Host.sort2
  rw [dif_pos h1]
  refine (congrArg X (e _)).trans ?_
  refine congrArg (fun f : Fin n → Fin n → Bool => X (ix2 r (sortedFrom f i))) (funext fun k => funext fun k' => ?_)
  exact congrArg₂ (fun u v => cmp (X u, y u) (X v, y v) == 1#1) (e k) (e k')

/-- What a sort leaves in a row. -/
theorem sort_row (cmp : EReal → EReal → BitVec 1) (i : Fin n) :
    Host.sort (shape2 a n) 1 cmp X (ix2 r i) = X (ix2 r (sortedFrom (fun k k' => cmp (X (ix2 r k)) (X (ix2 r k')) == 1#1) i)) := by
  have h1 : 1 < (shape2 a n).rank := Nat.one_lt_two
  have e : ∀ k : Fin n, Shape.Idx.along (s := shape2 a n) (ix2 r i) (⟨1, h1⟩ : Fin (shape2 a n).rank) k = ix2 r k := along_row r h1 i
  unfold Host.sort
  rw [dif_pos h1]
  refine (congrArg X (e _)).trans ?_
  refine congrArg (fun f : Fin n → Fin n → Bool => X (ix2 r (sortedFrom f i))) (funext fun k => funext fun k' => ?_)
  exact congrArg₂ (fun u v => cmp (X u) (X v) == 1#1) (e k) (e k')

include hx

/-- A sort that puts the greater first leaves the descending row. -/
theorem sort2_coe {β : Type} (cmp : EReal × β → EReal × β → BitVec 1) (hc : ∀ p q : ℝ, ∀ u v, cmp ((p : EReal), u) ((q : EReal), v) = 1#1 ↔ q < p)
    (y : (shape2 a n).Idx → β) (i : Fin n) : (Host.sort2 (shape2 a n) 1 cmp X y).1 (ix2 r i) = ((sorted x i.val : ℝ) : EReal) := by
  rw [sort2_row, hx, sorted_val]
  unfold place
  congr 3
  funext k k'
  rw [Bool.eq_iff_iff, beq_iff_eq, decide_eq_true_iff, hx, hx]
  exact hc _ _ _ _

/-- The negation of a sort of the negation by a comparator that puts the less first leaves the same. -/
theorem sort_neg_coe (cmp : EReal → EReal → BitVec 1) (hc : ∀ p q : ℝ, cmp (p : EReal) (q : EReal) = 1#1 ↔ p < q) (i : Fin n) :
    -(Host.sort (shape2 a n) 1 cmp (fun j => -(X j)) (ix2 r i)) = ((sorted x i.val : ℝ) : EReal) := by
  rw [sort_row, neg_neg, hx, sorted_val]
  unfold place
  congr 3
  funext k k'
  rw [Bool.eq_iff_iff, beq_iff_eq, decide_eq_true_iff, hx, hx, ← EReal.coe_neg, ← EReal.coe_neg, hc, neg_lt_neg_iff]

/-- The first entries of the descending row are the top-k. -/
theorem topK_coe {K : ℕ} (gt : EReal → EReal → BitVec 1) (hc : ∀ p q : ℝ, gt (p : EReal) (q : EReal) = 1#1 ↔ q < p)
    (h : (shape2 a n).Slices (fun _ => 0) (shape2 a K)) (hK : K ≤ n) (i : Fin K) :
    (Host.topK (shape2 a K) 1 gt X h).1 (ix2 r i) = ((sorted x i.val : ℝ) : EReal) := by
  unfold Host.topK
  dsimp only
  refine (Idealize.ShloMosaic.extractStridedSlice_apply _ _ h (ix2 r i) (ix2 r (i.castLE hK)) fun b => ?_).trans
    (sort2_coe r X x hx (fun l l' : EReal × BitVec 32 => gt l.1 l'.1) (fun p q _ _ => hc p q) _ (i.castLE hK))
  match b with
  | ⟨0, _⟩ => exact (Nat.zero_add _).symm
  | ⟨1, _⟩ => exact (Nat.zero_add _).symm

end Rows

end Cert.Tsallis

end
-- ==== Proof.Tsallis.Gather.lean ====
/- A row's entry taken by its own index. -/
module

public import proofs.«01_k».proof.Proof.Tsallis.Host

@[expose] public section

noncomputable section

namespace Cert.Tsallis

open Finset Idealize.ShloMosaic Idealize.ShloMosaic.Routing Idealize.ShloMosaic.ValueIdx

/-- The dimension numbers of taking one entry a row. -/
abbrev takeDims (n N : ℕ) (wf : GatherDims.WF (shape2 n N) (shape3 n 1 1) (shape2 n 1) [] [1] [0] [1] [0] 2 ![1, 1]) :
    GatherDims (shape2 n N) (shape3 n 1 1) (shape2 n 1) where
  offsetDims := []
  collapsedSliceDims := [1]
  operandBatchingDims := [0]
  startIndicesBatchingDims := [0]
  startIndexMap := [1]
  indexVectorDim := 2
  sliceSizes := ![1, 1]
  wf := wf

/-- The entry taken is the one the row's index says. -/
theorem gather_take {α : Type} {n N : ℕ} (wf : GatherDims.WF (shape2 n N) (shape3 n 1 1) (shape2 n 1) [] [1] [0] [1] [0] 2 ![1, 1])
    (x : (shape2 n N).Idx → α) (idx : IVec (shape3 n 1 1) 32) (r : Fin n) (b : Fin N) (hN : N < 2 ^ 31)
    (hb : idx (ix3 r 0 0) = BitVec.ofNat 32 b.val) : Host.gather (takeDims n N wf) x idx (ix2 r 0) = x (ix2 r b) := by
  unfold Host.gather
  refine congrArg x (funext fun a => Fin.ext ?_)
  have hsi : ∀ k, (takeDims n N wf).siIdx (ix2 r 0) k = ix3 r 0 0 := by
    intro k
    funext c
    match c with
    | ⟨0, _⟩ => rfl
    | ⟨1, _⟩ => rfl
    | ⟨2, _⟩ => exact Subsingleton.elim (α := Fin 1) _ _
  match a with
  | ⟨0, _⟩ =>
    show (takeDims n N wf).start (ix2 r 0) idx 0 + (takeDims n N wf).batchCoord (ix2 r 0) 0 + (takeDims n N wf).offCoord (ix2 r 0) 0 = r.val
    rw [GatherDims.start_batching _ _ _ _ (List.mem_singleton.2 rfl),
      GatherDims.offCoord_eq_zero _ _ _ (fun h => ((GatherDims.mem_sKept _ _).1 h).2 (List.mem_singleton.2 rfl)), Nat.zero_add, Nat.add_zero]
    rfl
  | ⟨1, _⟩ =>
    show (takeDims n N wf).start (ix2 r 0) idx 1 + (takeDims n N wf).batchCoord (ix2 r 0) 1 + (takeDims n N wf).offCoord (ix2 r 0) 1 = b.val
    rw [GatherDims.batchCoord_eq_zero _ _ _ (fun h => Nat.one_ne_zero (congrArg Fin.val (List.mem_singleton.1 h))),
      GatherDims.offCoord_eq_zero _ _ _ (fun h => ((GatherDims.mem_sKept _ _).1 h).1 (List.mem_singleton.2 rfl)), Nat.add_zero]
    unfold GatherDims.start
    rw [dif_pos (List.mem_singleton.2 rfl), hsi, hb, StableHlo.Predicate.toInt_ofNat_small _ (by have := b.isLt; omega)]
    show min ((b.val : Int)).toNat (N - 1) = b.val
    have := b.isLt
    omega

end Cert.Tsallis

end
-- ==== Proof.Tsallis.Threshold.lean ====
/- The reference's threshold from the first entries of a descending row, at any number of entries. -/
module

public import proofs.«01_k».proof.Proof.Tsallis.Gather

@[expose] public section

noncomputable section

namespace Cert.Tsallis

open Finset Idealize.ShloMosaic Idealize.ShloMosaic.Routing Idealize.ShloMosaic.ValueIdx

/-- The shape relations of the threshold's operations, on `n` rows of `N` entries, `m` the last one's index. -/
structure Shapes (n N m : ℕ) : Prop where
  all : pt.BroadcastsInDim (shape2 n N) (![] : Fin 0 → Fin (shape2 n N).rank)
  row : pt.BroadcastsInDim (shape1 N) (![] : Fin 0 → Fin (shape1 N).rank)
  one : pt.BroadcastsInDim pt (![] : Fin 0 → Fin pt.rank)
  flat : (shape1 N).BroadcastsInDim (shape2 1 N) (![1] : Fin 1 → Fin (shape2 1 N).rank)
  rows : (shape2 1 N).BroadcastsInDim (shape2 n N) (![0, 1] : Fin 2 → Fin (shape2 n N).rank)
  win : (shape2 n N).ReduceWindows (![1, N] : Fin 2 → ℕ) ![1, 1] ![0, m] ![0, 0] (shape2 n N)
  pos : 0 < pt.numel
  red : (shape2 n N).ReducesTo [1] (shape1 n)
  col : (shape1 n).BroadcastsInDim (shape2 n 1) (![0] : Fin 1 → Fin (shape2 n 1).rank)
  cols : pt.BroadcastsInDim (shape2 n 1) (![] : Fin 0 → Fin (shape2 n 1).rank)
  lift : (shape2 n 1).ShapeCasts (shape3 n 1 1)
  deep : pt.BroadcastsInDim (shape3 n 1 1) (![] : Fin 0 → Fin (shape3 n 1 1).rank)
  cell : (shape1 1).BroadcastsInDim (shape3 1 1 1) (![2] : Fin 1 → Fin (shape3 1 1 1).rank)
  cells : (shape3 1 1 1).BroadcastsInDim (shape3 n 1 1) (![0, 1, 2] : Fin 3 → Fin (shape3 n 1 1).rank)
  sole : (shape3 n 1 1).ReducesTo [2] (shape2 n 1)
  take : GatherDims.WF (shape2 n N) (shape3 n 1 1) (shape2 n 1) [] [1] [0] [1] [0] 2 ![1, 1]
  wide : 1 < 32

variable {n N m : ℕ} (H : Shapes n N m)

/-- One number everywhere. -/
def fill (b : BitVec 32) : FVec Ideal (shape2 n N) .f32 := broadcastInDim (shape2 n N) ![] H.all (constant (F := Ideal) pt .f32 b)

/-- The counts one, two, three, along every row. -/
def counts : FVec Ideal (shape2 n N) .f32 :=
  broadcastInDim (shape2 n N) ![0, 1] H.rows (broadcastInDim (shape2 1 N) ![1] H.flat
    (addf (broadcastInDim (shape1 N) ![] H.row (constant (F := Ideal) pt .f32 0x3F800000#32)) (sitofp .f32 (iotaInDim (shape1 N) 32 0))))

/-- The running means. -/
def means (v : FVec Ideal (shape2 n N) .f32) : FVec Ideal (shape2 n N) .f32 :=
  Host.divf (Host.reduceWindowAdd ![1, N] ![1, 1] ![0, m] ![0, 0] v (broadcastInDim pt ![] H.one (constant (F := Ideal) pt .f32 0x00000000#32)) H.win H.pos)
    (counts H)

/-- The discriminants, from below at zero. -/
def deltas (v : FVec Ideal (shape2 n N) .f32) : FVec Ideal (shape2 n N) .f32 :=
  maximumf (Host.divf (subf (fill H 0x3F800000#32) (mulf (counts H) (subf (means H (mulf v v)) (mulf (means H v) (means H v))))) (counts H))
    (fill H 0x00000000#32)

/-- The thresholds of all supports. -/
def taus (v : FVec Ideal (shape2 n N) .f32) : FVec Ideal (shape2 n N) .f32 :=
  subf (means H v) (select (cmpf .ogt (deltas H v) (fill H 0x00000000#32))
    (Host.sqrt (select (cmpf .ogt (deltas H v) (fill H 0x00000000#32)) (deltas H v) (fill H 0x3F800000#32))) (fill H 0x00000000#32))

/-- The supports' sizes. -/
def sizes (v : FVec Ideal (shape2 n N) .f32) : IVec (shape2 n 1) 32 :=
  broadcastInDim (shape2 n 1) ![0] H.col
    (Host.reduce IntOp.addi (extui 32 (cmpf .ole (taus H v) v) H.wide) (constantI pt 32 0#32) H.red H.pos)

/-- One word in every row. -/
def words (b : BitVec 32) : IVec (shape2 n 1) 32 := broadcastInDim (shape2 n 1) ![] H.cols (constantI pt 32 b)

/-- The supports' last places. -/
def lasts (v : FVec Ideal (shape2 n N) .f32) : IVec (shape2 n 1) 32 := subi (sizes H v) (words H 1#32)

/-- The same, counted from the end where negative. -/
def wrapped (w : IVec (shape2 n 1) 32) : IVec (shape3 n 1 1) 32 :=
  shapeCast (shape3 n 1 1) (select (cmpi .slt w (words H 0#32)) (addi w (words H (BitVec.ofNat 32 N))) w) H.lift

/-- Whether a place is one of the row's. -/
def inside (i : IVec (shape3 n 1 1) 32) : IVec (shape2 n 1) 1 :=
  Host.reduce IntOp.andi (andi (cmpi .sge i (broadcastInDim (shape3 n 1 1) ![] H.deep (constantI pt 32 0#32)))
    (cmpi .sle i (broadcastInDim (shape3 n 1 1) ![0, 1, 2] H.cells (broadcastInDim (shape3 1 1 1) ![2] H.cell (constantI (shape1 1) 32 (BitVec.ofNat 32 m))))))
    (constantI pt 1 1#1) H.sole H.pos

/-- The rows' entries at their places. -/
def pick (t : FVec Ideal (shape2 n N) .f32) (i : IVec (shape3 n 1 1) 32) : FVec Ideal (shape2 n 1) .f32 :=
  select (inside H i) (Host.gather (takeDims n N H.take) t i) (broadcastInDim (shape2 n 1) ![] H.cols (constant (F := Ideal) pt .f32 0x7FC00000#32))

/-- The thresholds the supports pick. -/
def picked (v : FVec Ideal (shape2 n N) .f32) : FVec Ideal (shape2 n 1) .f32 := pick H (taus H v) (wrapped H (lasts H v))

section Row

variable (hN : m + 1 = N) (hN' : N < 2 ^ 31) (r : Fin n)

include hN'

theorem counts_coe (k : Fin N) : counts H (ix2 r k) = ((1 + k.val : ℝ) : EReal) := by
  unfold counts
  rw [stack H.flat H.rows _ r k]
  show Ideal.ofBits .f32 0x3F800000#32 + (((BitVec.ofNat 32 k.val).toInt : ℝ) : EReal) = _
  rw [StableHlo.Predicate.toInt_ofNat_small _ (k.isLt.trans hN'), bits_one, EReal.coe_add]
  simp

include hN

theorem means_coe (v : FVec Ideal (shape2 n N) .f32) (f : ℕ → ℝ) (hv : ∀ k : Fin N, v (ix2 r k) = (f k.val : EReal)) (k : Fin N) :
    means H v (ix2 r k) = (((∑ i ∈ range (k.val + 1), f i) / (1 + k.val) : ℝ) : EReal) := by
  have h0 : (broadcastInDim pt ![] H.one (constant (F := Ideal) pt .f32 0x00000000#32) (Shape.Idx.first H.pos) : EReal) = 0 :=
    bits_zero.trans EReal.coe_zero
  have e : (Host.reduceWindowAdd ![1, N] ![1, 1] ![0, m] ![0, 0] v (broadcastInDim pt ![] H.one (constant (F := Ideal) pt .f32 0x00000000#32)) H.win H.pos
      (ix2 r k) : EReal) = ((∑ i ∈ range (k.val + 1), f i : ℝ) : EReal) := by
    show Ideal.hostReduceWindowAdd ![1, N] ![1, 1] ![0, m] ![0, 0] H.win v
      (broadcastInDim pt ![] H.one (constant (F := Ideal) pt .f32 0x00000000#32) (Shape.Idx.first H.pos)) (ix2 r k) = _
    rw [h0, cumsum_rows hN v (fun i => (f i : EReal)) r hv H.win k, coe_sum]
  unfold means
  show Ideal.div _ (counts H (ix2 r k)) = _
  rw [e, counts_coe H hN' r k, div_coe _ (ne_of_gt (pos_count k.val))]

variable (v : FVec Ideal (shape2 n N) .f32) (y : ℕ → ℝ) (hv : ∀ k : Fin N, v (ix2 r k) = (y k.val : EReal))

include hv

theorem deltas_coe (k : Fin N) : deltas H v (ix2 r k) = ((max (delta y k.val) 0 : ℝ) : EReal) := by
  have h1 := means_coe H hN hN' r v y hv k
  have h2 := means_coe H hN hN' r (mulf v v) (fun i => y i * y i)
    (fun k => by show v (ix2 r k) * v (ix2 r k) = _; rw [hv, EReal.coe_mul]) k
  unfold deltas
  show max (Ideal.div (Ideal.ofBits .f32 0x3F800000#32 - counts H (ix2 r k)
    * (means H (mulf v v) (ix2 r k) - means H v (ix2 r k) * means H v (ix2 r k))) (counts H (ix2 r k))) (Ideal.ofBits .f32 0x00000000#32) = _
  rw [h1, h2, counts_coe H hN' r k, bits_one, bits_zero, ← EReal.coe_mul, ← EReal.coe_sub, ← EReal.coe_mul, ← EReal.coe_sub,
    div_coe _ (ne_of_gt (pos_count k.val)), max_coe]
  rfl

theorem taus_coe (k : Fin N) : taus H v (ix2 r k) = ((tau y k.val : ℝ) : EReal) := by
  unfold taus
  show means H v (ix2 r k) - Scalar.select (Ideal.cmp .ogt (deltas H v (ix2 r k)) (Ideal.ofBits .f32 0x00000000#32))
    (Ideal.sqrt (Scalar.select (Ideal.cmp .ogt (deltas H v (ix2 r k)) (Ideal.ofBits .f32 0x00000000#32)) (deltas H v (ix2 r k))
      (Ideal.ofBits .f32 0x3F800000#32))) (Ideal.ofBits .f32 0x00000000#32) = _
  rw [means_coe H hN hN' r v y hv k, deltas_coe H hN hN' r v y hv k, bits_one, bits_zero, select_coe _ _ (cmp_ogt _ _)]
  have h0 : 0 ≤ (if 0 < max (delta y k.val) 0 then max (delta y k.val) 0 else 1 : ℝ) := by
    split
    · exact le_max_right _ _
    · exact zero_le_one
  rw [sqrt_coe h0, select_coe _ _ (cmp_ogt _ _), ← EReal.coe_sub]
  congr 1
  unfold tau mean
  congr 1
  split
  · rfl
  · next h => rw [le_antisymm (not_lt.1 h) (le_max_right _ _), Real.sqrt_zero]

theorem sizes_eq : sizes H v (ix2 r 0) = BitVec.ofNat 32 (support y N) := by
  classical
  unfold sizes
  rw [column H.col _ r, reduce_count (by omega) _ H.wide H.red H.pos r (fun q => tau y q ≤ y q) fun q => ?_]
  · rw [Nat.count_eq_card_filter_range]
    unfold support
    congr 2
  · show Ideal.cmp .ole (taus H v (ix2 r q)) (v (ix2 r q)) = 1#1 ↔ _
    rw [taus_coe H hN hN' r v y hv q, hv]
    exact cmp_ole _ _

theorem lasts_eq (h0 : 0 < support y N) : lasts H v (ix2 r 0) = BitVec.ofNat 32 (support y N - 1) := by
  show sizes H v (ix2 r 0) - 1#32 = _
  rw [sizes_eq H hN hN' r v y hv]
  obtain ⟨s, hs⟩ : ∃ s, support y N = s + 1 := ⟨support y N - 1, by omega⟩
  rw [hs, Nat.add_sub_cancel, BitVec.ofNat_add]
  simp

omit hN hv in
theorem wrapped_eq (w : IVec (shape2 n 1) 32) (k : Fin N) (hw : w (ix2 r 0) = BitVec.ofNat 32 k.val) :
    wrapped H w (ix3 r 0 0) = BitVec.ofNat 32 k.val := by
  unfold wrapped
  rw [Idealize.ShloMosaic.shapeCast_apply _ _ _ (ix2 r 0) (by
    rw [Shape.rowMajor_val_two, Shape.rowMajor_val_three]
    show r.val * 1 + 0 = (r.val * 1 + 0) * 1 + 0
    omega)]
  show Scalar.select (IntOp.cmpi .slt (w (ix2 r 0)) 0#32) _ (w (ix2 r 0)) = _
  rw [hw]
  unfold Scalar.select
  rw [if_neg]
  intro h
  have := (StableHlo.Predicate.slt_ofNat_iff k.val 0 (k.isLt.trans hN') (by norm_num)).1 h
  omega

omit hv in
theorem inside_eq (i : IVec (shape3 n 1 1) 32) (k : Fin N) (hi : i (ix3 r 0 0) = BitVec.ofNat 32 k.val)
    (hr : (shape3 n 1 1).Reduces [2] (shape2 n 1)) : inside H i (ix2 r 0) = 1#1 := by
  have hk := k.isLt
  unfold inside
  rw [Host.reduce_eq_fold_single IntOp.andi _ _ H.sole hr H.pos (ix2 r 0)]
  have hl : ∀ q : Fin 1, hr.lift (ix2 r 0) q = ix3 r 0 0 := by
    intro q
    funext c
    match c with
    | ⟨0, _⟩ => exact Fin.ext rfl
    | ⟨1, _⟩ => exact Fin.ext rfl
    | ⟨2, _⟩ => exact Subsingleton.elim (α := Fin 1) _ _
  have hb : IntOp.andi (IntOp.cmpi .sge (i (ix3 r 0 0)) 0#32) (IntOp.cmpi .sle (i (ix3 r 0 0)) (BitVec.ofNat 32 m)) = 1#1 := by
    rw [and_eq_one, hi]
    exact ⟨(StableHlo.Predicate.sle_ofNat_iff 0 k.val (by norm_num) (by omega)).2 (Nat.zero_le _),
      (StableHlo.Predicate.sle_ofNat_iff k.val m (by omega) (by omega)).2 (by omega)⟩
  refine (congrArg (fun g => Finset.fold IntOp.andi _ g univ) (funext fun q => ?_ : _ = fun _ : Fin 1 => 1#1)).trans ?_
  · refine (congrArg _ (hl q)).trans ?_
    exact hb
  · show Finset.fold IntOp.andi 1#1 (fun _ : Fin 1 => 1#1) (univ : Finset (Fin 1)) = 1#1
    decide

/-- On a descending row's real numbers, the threshold picked is the support's last one's. -/
theorem picked_coe (h0 : 0 < support y N) (hs : support y N ≤ N) (hr : (shape3 n 1 1).Reduces [2] (shape2 n 1)) :
    picked H v (ix2 r 0) = ((tau y (support y N - 1) : ℝ) : EReal) := by
  have hk : support y N - 1 < N := by omega
  have hw := wrapped_eq H hN' r (lasts H v) ⟨support y N - 1, hk⟩ (lasts_eq H hN hN' r v y hv h0)
  unfold picked pick
  show Scalar.select (inside H _ (ix2 r 0)) (Host.gather (takeDims n N H.take) (taus H v) _ (ix2 r 0)) _ = _
  rw [inside_eq H hN hN' r _ _ hw hr, gather_take H.take _ _ r _ hN' hw, taus_coe H hN hN' r v y hv]
  rfl

end Row

end Cert.Tsallis

end
-- ==== Proof.Tsallis.Reference.lean ====
/- The reference on a row of real numbers: the squares over a threshold that leaves a mass of one. -/
module

public import proofs.«01_k».proof.Proof.Tsallis.Sorted
public import proofs.«01_k».proof.Proof.Tsallis.Threshold

@[expose] public section

noncomputable section

namespace Cert.Tsallis

open Finset Idealize.ShloMosaic Idealize.ShloMosaic.Routing Idealize.ShloMosaic.ValueIdx

/-- The shape relations of the reference's operations. -/
structure RefShapes : Prop where
  head : Shapes 64 100 99
  full : Shapes 64 32768 32767
  cut : (shape2 64 32768).Slices (fun _ => 0) (shape2 64 100)
  along : (shape2 64 1).BroadcastsInDim (shape2 64 32768) (![0, 1] : Fin 2 → Fin (shape2 64 32768).rank)

/-- The order the reference's sort compares by. -/
def order (l r : Ideal .f32) : BitVec 1 :=
  FloatOps.cmpfTotal .lt
    (Scalar.select (FloatOps.cmpf .une l l) (FloatOps.ofBits .f32 0x7FC00000#32)
      (Scalar.select (FloatOps.cmpf .oeq l (FloatOps.ofBits .f32 0x00000000#32)) (FloatOps.ofBits .f32 0x00000000#32) l))
    (Scalar.select (FloatOps.cmpf .une r r) (FloatOps.ofBits .f32 0x7FC00000#32)
      (Scalar.select (FloatOps.cmpf .oeq r (FloatOps.ofBits .f32 0x00000000#32)) (FloatOps.ofBits .f32 0x00000000#32) r))

/-- A number's key is the number. -/
theorem key_eq (p : ℝ) : (Scalar.select (Ideal.cmp .une (p : EReal) (p : EReal)) (Ideal.ofBits .f32 0x7FC00000#32)
    (Scalar.select (Ideal.cmp .oeq (p : EReal) (Ideal.ofBits .f32 0x00000000#32)) (Ideal.ofBits .f32 0x00000000#32) (p : EReal)) : EReal) = (p : EReal) := by
  have h1 : Ideal.cmp .une (p : EReal) (p : EReal) = 0#1 := by
    show BitVec.ofBool (decide ((p : EReal) ≠ p)) = 0#1
    rw [decide_eq_false (by simp)]; rfl
  rw [h1, bits_zero, select_coe _ _ (cmp_oeq _ _)]
  show (((if p = 0 then 0 else p : ℝ)) : EReal) = _
  split
  · next h => rw [h]
  · rfl

theorem order_coe (p q : ℝ) : order (p : EReal) (q : EReal) = 1#1 ↔ p < q := by
  show Ideal.cmp .olt (Scalar.select (Ideal.cmp .une (p : EReal) (p : EReal)) (Ideal.ofBits .f32 0x7FC00000#32)
      (Scalar.select (Ideal.cmp .oeq (p : EReal) (Ideal.ofBits .f32 0x00000000#32)) (Ideal.ofBits .f32 0x00000000#32) (p : EReal)))
    (Scalar.select (Ideal.cmp .une (q : EReal) (q : EReal)) (Ideal.ofBits .f32 0x7FC00000#32)
      (Scalar.select (Ideal.cmp .oeq (q : EReal) (Ideal.ofBits .f32 0x00000000#32)) (Ideal.ofBits .f32 0x00000000#32) (q : EReal))) = 1#1 ↔ p < q
  rw [key_eq, key_eq]
  show BitVec.ofBool (decide ((p : EReal) < q)) = 1#1 ↔ _
  rw [ofBool_eq_one, decide_eq_true_iff, EReal.coe_lt_coe_iff]

theorem greater_coe (p q : ℝ) : FloatOps.cmpfTotal (F := Ideal) (φ := .f32) .gt (p : EReal) (q : EReal) = 1#1 ↔ q < p := cmp_ogt p q

theorem ratio_at {s : Shape} (A B C : FVec Ideal s .f32) (p : s.Idx) : Host.divf (subf A B) C p = Ideal.div (A p - B p) (C p) := rfl

theorem excess_at {s : Shape} (A B C : FVec Ideal s .f32) (p : s.Idx) : maximumf (subf A B) C p = max (A p - B p) (C p) := rfl

theorem square_at {s : Shape} (A : FVec Ideal s .f32) (p : s.Idx) : mulf A A p = A p * A p := rfl

theorem fill_at {n N m : ℕ} (H : Shapes n N m) (b : BitVec 32) (p : (shape2 n N).Idx) : fill H b p = Ideal.ofBits .f32 b := rfl

variable (G : RefShapes) (X : FVec Ideal (shape2 64 32768) .f32)

/-- The rows less their maxima, halved. -/
def halved : FVec Ideal (shape2 64 32768) .f32 :=
  Host.divf (subf X (broadcastInDim (shape2 64 32768) ![0, 1] G.along (broadcastInDim (shape2 64 1) ![0] G.full.col
    (Host.reduce (FloatOps.maximumf (F := Ideal) (φ := .f32)) X (constant (F := Ideal) pt .f32 0xFF800000#32) G.full.red G.full.pos))))
    (fill G.full 0x40000000#32)

/-- The hundred greatest of a row. -/
def greatest : FVec Ideal (shape2 64 100) .f32 :=
  (Host.topK (shape2 64 100) 1 (FloatOps.cmpfTotal (F := Ideal) (φ := .f32) .gt) (halved G X) G.cut).1

/-- All of a row, the greatest first. -/
def descending : FVec Ideal (shape2 64 32768) .f32 := Host.negf (Host.sort (shape2 64 32768) 1 order (Host.negf (halved G X)))

/-- The thresholds. -/
def threshold : FVec Ideal (shape2 64 1) .f32 :=
  select (cmpi .eq (sizes G.head (greatest G X)) (words G.head 100#32)) (picked G.full (descending G X)) (picked G.head (greatest G X))

/-- What a row has over its threshold. -/
def parts : FVec Ideal (shape2 64 32768) .f32 :=
  maximumf (subf (halved G X) (broadcastInDim (shape2 64 32768) ![0, 1] G.along (threshold G X))) (fill G.full 0x00000000#32)

section Row

variable (R : Fin 64) (x : Fin 32768 → ℝ) (μ : ℝ) (hx : ∀ j, X (ix2 R j) = (x j : EReal)) (h1 : ∃ j, x j = μ) (h2 : ∀ j, x j ≤ μ)

include hx h1 h2

theorem halved_coe (j : Fin 32768) : halved G X (ix2 R j) = (((x j - μ) * (1 / 2) : ℝ) : EReal) := by
  have hr : (shape2 64 32768).Reduces [1] (shape1 64) := by decide
  have hm : Host.reduce (FloatOps.maximumf (F := Ideal) (φ := .f32)) X (constant (F := Ideal) pt .f32 0xFF800000#32) G.full.red G.full.pos (ix1 R)
      = (μ : EReal) := by
    obtain ⟨i, hi⟩ := h1
    exact rowmax_coe hr _ _ R X μ ⟨i, by rw [hx, hi]⟩ fun j => by rw [hx]; exact EReal.coe_le_coe_iff.2 (h2 j)
  unfold halved
  rw [ratio_at, fill_at, spread G.along _ R j, column G.full.col _ R, hm, hx, bits_two, ← EReal.coe_sub, div_coe _ two_ne_zero, div_eq_mul_one_div]

theorem threshold_coe : ∃ τ : ℝ, threshold G X (ix2 R 0) = (τ : EReal) ∧ mass (fun j => (x j - μ) * (1 / 2)) τ = 1 ∧ -1 ≤ τ ∧ τ ≤ 0 := by
  set z : Fin 32768 → ℝ := fun j => (x j - μ) * (1 / 2) with hz
  have hh : ∀ j, halved G X (ix2 R j) = (z j : EReal) := halved_coe G X R x μ hx h1 h2
  have z0 : sorted z 0 = 0 := by
    obtain ⟨i, hi⟩ := h1
    refine sorted_zero z 0 ⟨i, by rw [hz]; simp [hi]⟩ fun j => ?_
    have := h2 j
    show (x j - μ) * (1 / 2) ≤ 0
    linarith
  have hy := sorted_anti z
  have ht : ∀ k : Fin 100, greatest G X (ix2 R k) = (sorted z k.val : EReal) := fun k =>
    topK_coe R (halved G X) z hh _ greater_coe G.cut (by norm_num) k
  have hd : ∀ k : Fin 32768, descending G X (ix2 R k) = (sorted z k.val : EReal) := fun k =>
    sort_neg_coe R (halved G X) z hh order order_coe k
  obtain ⟨a1, a2, -, -⟩ := support_spec hy (K := 100) (by norm_num) (by norm_num)
  obtain ⟨b1, b2, -, -⟩ := support_spec hy (K := 32768) le_rfl (by norm_num)
  have hA := picked_coe G.head (by norm_num) (by norm_num) R (greatest G X) (sorted z) ht a1 a2 (by decide)
  have hB := picked_coe G.full (by norm_num) (by norm_num) R (descending G X) (sorted z) hd b1 b2 (by decide)
  have hs := sizes_eq G.head (by norm_num) (by norm_num) R (greatest G X) (sorted z) ht
  have hsel : threshold G X (ix2 R 0) = Scalar.select (IntOp.cmpi .eq (sizes G.head (greatest G X) (ix2 R 0)) 100#32)
    (picked G.full (descending G X) (ix2 R 0)) (picked G.head (greatest G X) (ix2 R 0)) := rfl
  rw [hsel, hs, hA, hB]
  unfold Scalar.select
  by_cases h : support (sorted z) 100 = 100
  · obtain ⟨c1, c2, c3⟩ := tau_support hy (K := 32768) le_rfl (by norm_num) (Or.inr rfl)
    refine ⟨_, if_pos ?_, (massN_sorted z _).symm.trans c1, by linarith, by linarith⟩
    rw [h]; rfl
  · obtain ⟨c1, c2, c3⟩ := tau_support hy (K := 100) (by norm_num) (by norm_num) (Or.inl (lt_of_le_of_ne a2 h))
    refine ⟨_, if_neg ?_, (massN_sorted z _).symm.trans c1, by linarith, by linarith⟩
    intro e
    have e' : BitVec.ofNat 32 (support (sorted z) 100) = 100#32 := by
      have := (ofBool_eq_one _).1 e
      exact beq_iff_eq.1 this
    have e2 := congrArg BitVec.toNat e'
    rw [BitVec.toNat_ofNat, Nat.mod_eq_of_lt (by omega)] at e2
    exact h e2

/-- On a row of real numbers the reference is the squares over a threshold between minus one and zero that leaves a mass of one. -/
theorem parts_coe : ∃ τ : ℝ, mass (fun j => (x j - μ) * (1 / 2)) τ = 1 ∧ -1 ≤ τ ∧ τ ≤ 0 ∧ ∀ j,
    mulf (parts G X) (parts G X) (ix2 R j) = ((over ((x j - μ) * (1 / 2)) τ * over ((x j - μ) * (1 / 2)) τ : ℝ) : EReal) := by
  obtain ⟨τ, e, hm, hl, hu⟩ := threshold_coe G X R x μ hx h1 h2
  refine ⟨τ, hm, hl, hu, fun j => ?_⟩
  have hp : parts G X (ix2 R j) = ((over ((x j - μ) * (1 / 2)) τ : ℝ) : EReal) := by
    unfold parts
    rw [excess_at, fill_at, spread G.along _ R j, e, halved_coe G X R x μ hx h1 h2 j, bits_zero, ← EReal.coe_sub, max_coe]
    rfl
  rw [square_at, hp, EReal.coe_mul]

end Row

end Cert.Tsallis

end
-- ==== Proof.Tsallis.Agree.lean ====
/- The reference program's result and the residual's bound, as the row theorems' terms. -/
module

public import proofs.«01_k».proof.Post_within_residual
public import proofs.«01_k».proof.Proof.Gen.ReferenceIdeal.Run
public import proofs.«01_k».proof.Proof.Tsallis.Reference

@[expose] public section

noncomputable section

namespace Cert.Tsallis

open Idealize.ShloMosaic Idealize.ShloMosaic.Routing Idealize.ShloMosaic.ValueIdx Idealize.ShloMosaic.StableHlo
open Cert.ReferenceIdeal.Value

variable [Cert.ReferenceIdeal.Facts]

open Cert.ReferenceIdeal.Facts₀ in
/-- The reference program's shape relations. -/
theorem shapes : RefShapes where
  head := ⟨bcast_S_S64x100, bcast_S_S100, bcast_S_S_, bcast_S100_S1x100_1, bcast_S1x100_S64x100_0_1,
    reduceWindows_S64x100_S64x100_w1s1p0_0_w100s1p99_0, h_S_, reducesTo_S64x100_S64_d1, bcast_S64_S64x1_0, bcast_S_S64x1,
    shapeCasts_S64x1_S64x1x1, bcast_S_S64x1x1, bcast_S1_S1x1x1_2, bcast_S1x1x1_S64x1x1_0_1_2, reducesTo_S64x1x1_S64x1_d2,
    gather_S64x100_S64x1x1_S64x1_n_1_0_0_1_2_11_wf, natLt_1_32⟩
  full := ⟨bcast_S_S64x32768, bcast_S_S32768, bcast_S_S_, bcast_S32768_S1x32768_1, bcast_S1x32768_S64x32768_0_1,
    reduceWindows_S64x32768_S64x32768_w1s1p0_0_w32768s1p32767_0, h_S_, reducesTo_S64x32768_S64_d1, bcast_S64_S64x1_0, bcast_S_S64x1,
    shapeCasts_S64x1_S64x1x1, bcast_S_S64x1x1, bcast_S1_S1x1x1_2, bcast_S1x1x1_S64x1x1_0_1_2, reducesTo_S64x1x1_S64x1_d2,
    gather_S64x32768_S64x1x1_S64x1_n_1_0_0_1_2_11_wf, natLt_1_32⟩
  cut := sliceFits_S64x32768_S64x100
  along := bcast_S64x1_S64x32768_0_1

/-- The residual bound's shape relations are the reference program's. -/
theorem bound : Cert.Post_within_residual.Facts where
  reducesTo_S64x32768_S64_d1 := Cert.ReferenceIdeal.Facts₀.reducesTo_S64x32768_S64_d1
  h_S_ := Cert.ReferenceIdeal.Facts₀.h_S_
  bcast_S64_S64x1_0 := Cert.ReferenceIdeal.Facts₀.bcast_S64_S64x1_0
  bcast_S64x1_S64x32768_0_1 := Cert.ReferenceIdeal.Facts₀.bcast_S64x1_S64x32768_0_1
  bcast_S_S64x32768 := Cert.ReferenceIdeal.Facts₀.bcast_S_S64x32768
  sliceFits_S64x32768_S64x100 := Cert.ReferenceIdeal.Facts₀.sliceFits_S64x32768_S64x100
  bcast_S_S100 := Cert.ReferenceIdeal.Facts₀.bcast_S_S100
  bcast_S_S_ := Cert.ReferenceIdeal.Facts₀.bcast_S_S_
  reduceWindows_S64x100_S64x100_w1s1p0_0_w100s1p99_0 := Cert.ReferenceIdeal.Facts₀.reduceWindows_S64x100_S64x100_w1s1p0_0_w100s1p99_0
  bcast_S100_S1x100_1 := Cert.ReferenceIdeal.Facts₀.bcast_S100_S1x100_1
  bcast_S1x100_S64x100_0_1 := Cert.ReferenceIdeal.Facts₀.bcast_S1x100_S64x100_0_1
  bcast_S_S64x100 := Cert.ReferenceIdeal.Facts₀.bcast_S_S64x100
  natLt_1_32 := Cert.ReferenceIdeal.Facts₀.natLt_1_32
  reducesTo_S64x100_S64_d1 := Cert.ReferenceIdeal.Facts₀.reducesTo_S64x100_S64_d1
  bcast_S_S64x1 := Cert.ReferenceIdeal.Facts₀.bcast_S_S64x1
  shapeCasts_S64x1_S64x1x1 := Cert.ReferenceIdeal.Facts₀.shapeCasts_S64x1_S64x1x1
  bcast_S_S64x1x1 := Cert.ReferenceIdeal.Facts₀.bcast_S_S64x1x1
  bcast_S1_S1x1x1_2 := Cert.ReferenceIdeal.Facts₀.bcast_S1_S1x1x1_2
  bcast_S1x1x1_S64x1x1_0_1_2 := Cert.ReferenceIdeal.Facts₀.bcast_S1x1x1_S64x1x1_0_1_2
  reducesTo_S64x1x1_S64x1_d2 := Cert.ReferenceIdeal.Facts₀.reducesTo_S64x1x1_S64x1_d2
  bcast_S_S32768 := Cert.ReferenceIdeal.Facts₀.bcast_S_S32768
  reduceWindows_S64x32768_S64x32768_w1s1p0_0_w32768s1p32767_0 := Cert.ReferenceIdeal.Facts₀.reduceWindows_S64x32768_S64x32768_w1s1p0_0_w32768s1p32767_0
  bcast_S32768_S1x32768_1 := Cert.ReferenceIdeal.Facts₀.bcast_S32768_S1x32768_1
  bcast_S1x32768_S64x32768_0_1 := Cert.ReferenceIdeal.Facts₀.bcast_S1x32768_S64x32768_0_1
  gather_S64x100_S64x1x1_S64x1_n_1_0_0_1_2_11_wf := Cert.ReferenceIdeal.Facts₀.gather_S64x100_S64x1x1_S64x1_n_1_0_0_1_2_11_wf
  gather_S64x32768_S64x1x1_S64x1_n_1_0_0_1_2_11_wf := Cert.ReferenceIdeal.Facts₀.gather_S64x32768_S64x1x1_S64x1_n_1_0_0_1_2_11_wf

section Program

variable (V : Valuation Cert.ReferenceIdeal.τ Cert.ReferenceIdeal.sig (Elt Ideal))

/-- The array a valuation gives the reference program. -/
abbrev given : FVec Ideal (shape2 64 32768) .f32 := V (Proc.devRef .tc Cert.ReferenceIdeal.main_arg0)

/-- What the reference program squares. -/
theorem v93_eq : (res_main_v93 (F := Ideal) V : FVec Ideal (shape2 64 32768) .f32) = parts shapes (given V) := rfl

end Program

section Bound

variable [Cert.Post_within_residual.Facts] (X Y : FVec Ideal (shape2 64 32768) .f32)

/-- Twice how far the rows' sums are from one. -/
def slack : FVec Ideal (shape2 64 1) .f32 :=
  mulf (broadcastInDim (shape2 64 1) ![] shapes.full.cols (constant (F := Ideal) pt .f32 0x40000000#32))
    (Host.absf (subf (broadcastInDim (shape2 64 1) ![0] shapes.full.col
      (Host.reduceAdd Y (constant (F := Ideal) pt .f32 0x00000000#32) shapes.full.red shapes.full.pos))
      (broadcastInDim (shape2 64 1) ![] shapes.full.cols (constant (F := Ideal) pt .f32 0x3F800000#32))))

/-- The residual bound compares the distance to the reference with the row's slack. -/
theorem bound_eq : Cert.Post_within_residual.fn (F := Ideal) X Y = cmpf .ole (Host.absf (subf Y (mulf (parts shapes X) (parts shapes X))))
    (broadcastInDim (shape2 64 32768) ![0, 1] shapes.along (slack Y)) := rfl

theorem bound_at (A B C : FVec Ideal (shape2 64 32768) .f32) (p : (shape2 64 32768).Idx) :
    cmpf .ole (Host.absf (subf A B)) C p = Ideal.cmp .ole (max (A p - B p) (-(A p - B p))) (C p) := rfl

/-- A row's slack, from its entries. -/
theorem slack_coe (R : Fin 64) (y : Fin 32768 → ℝ) (hy : ∀ j, Y (ix2 R j) = (y j : EReal)) :
    slack Y (ix2 R 0) = ((2 * |∑ j, y j - 1| : ℝ) : EReal) := by
  have hr : (shape2 64 32768).Reduces [1] (shape1 64) := by decide
  have hs := rowsum_coe hr shapes.full.red shapes.full.pos R Y y hy
  have e : slack Y (ix2 R 0) = Ideal.ofBits .f32 0x40000000#32 * max
      ((broadcastInDim (shape2 64 1) ![0] shapes.full.col
        (Host.reduceAdd Y (constant (F := Ideal) pt .f32 0x00000000#32) shapes.full.red shapes.full.pos) (ix2 R 0) : EReal) - Ideal.ofBits .f32 0x3F800000#32)
      (-((broadcastInDim (shape2 64 1) ![0] shapes.full.col
        (Host.reduceAdd Y (constant (F := Ideal) pt .f32 0x00000000#32) shapes.full.red shapes.full.pos) (ix2 R 0) : EReal) - Ideal.ofBits .f32 0x3F800000#32)) := rfl
  rw [e, column shapes.full.col _ R, hs, bits_two, bits_one, ← EReal.coe_sub, abs_coe, ← EReal.coe_mul]

/-- On a row of real numbers, squares over any threshold between minus one and zero meet the residual bound. -/
theorem bound_row (R : Fin 64) (x : Fin 32768 → ℝ) (μ t : ℝ) (hx : ∀ j, X (ix2 R j) = (x j : EReal)) (h1 : ∃ j, x j = μ) (h2 : ∀ j, x j ≤ μ)
    (ht : -1 ≤ t) (ht0 : t ≤ 0)
    (hY : ∀ j, Y (ix2 R j) = ((over ((x j - μ) * (1 / 2)) t * over ((x j - μ) * (1 / 2)) t : ℝ) : EReal)) (j : Fin 32768) :
    Cert.Post_within_residual.fn (F := Ideal) X Y (ix2 R j) = 1#1 := by
  obtain ⟨s, hm, hs, hs0, hq⟩ := parts_coe shapes X R x μ hx h1 h2
  have hz : ∀ k, (x k - μ) * (1 / 2) ≤ 0 := fun k => by have := h2 k; linarith
  have hg := entry_gap (x := fun k => (x k - μ) * (1 / 2)) hz ht ht0 hs hs0 hm j
  rw [bound_eq, bound_at, spread shapes.along _ R j, slack_coe Y R _ hY, hY, hq, ← EReal.coe_sub, abs_coe, cmp_ole]
  exact hg

end Bound

end Cert.Tsallis

end
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Tsallis.Whole
public import proofs.«01_k».proof.Proof.Tsallis.Mask
public import proofs.«01_k».proof.Proof.Tsallis.Agree

@[expose] public section

noncomputable section

namespace Cert.Proof

open Idealize.ShloMosaic Idealize.ShloMosaic.TcCoe Idealize.SL.Sem Idealize.ShloMosaic.Routing Idealize.ShloMosaic.ValueIdx
open Cert.Tsallis (search mass over)

/-- The mask's shape relations are among the reference program's. -/
theorem on_facts : Cert.On_settled.Facts where
  reducesTo_S64x32768_S64_d1 := Cert.ReferenceIdeal.Facts₀.reducesTo_S64x32768_S64_d1
  h_S_ := Cert.ReferenceIdeal.Facts₀.h_S_
  bcast_S64_S64x1_0 := Cert.ReferenceIdeal.Facts₀.bcast_S64_S64x1_0
  bcast_S64x1_S64x32768_0_1 := Cert.ReferenceIdeal.Facts₀.bcast_S64x1_S64x32768_0_1
  bcast_S_S64x32768 := Cert.ReferenceIdeal.Facts₀.bcast_S_S64x32768
  bcast_S_S64x1 := Cert.ReferenceIdeal.Facts₀.bcast_S_S64x1

/-- The precondition's shape relation is one of the reference program's. -/
theorem pre_facts : Cert.Pre_finite.Facts where
  bcast_S_S64x32768 := Cert.ReferenceIdeal.Facts₀.bcast_S_S64x32768

/-- A row of real numbers has a greatest entry. -/
theorem row_max (x : Fin 32768 → ℝ) : ∃ μ, (∃ j, x j = μ) ∧ ∀ j, x j ≤ μ :=
  have ⟨i, hi⟩ := Finite.exists_max x
  ⟨x i, ⟨i, rfl⟩, hi⟩

/-- The reference's frame: its run leaves the argument, and it has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's result array from a memory. -/
abbrev kernelOut (m : (ℓ : Loc Cert.KernelIdeal.nD Cert.KernelIdeal.τ Cert.KernelIdeal.sig) → Buf (Elt Ideal) ℓ) (c : Dev Cert.KernelIdeal.nD) :
    FVec Ideal (shape2 64 32768) .f32 :=
  (Cert.KernelIdeal.Gen.dats m 0 c).arrAt 1 Cert.KernelIdeal.cfg0.N

/-- The kernel's argument array in a memory. -/
abbrev kernelIn (m : (ℓ : Loc Cert.KernelIdeal.nD Cert.KernelIdeal.τ Cert.KernelIdeal.sig) → Buf (Elt Ideal) ℓ) (c : Dev Cert.KernelIdeal.nD) :
    FVec Ideal (shape2 64 32768) .f32 :=
  m ((c.tc : Thread Cert.KernelIdeal.nD Cert.KernelIdeal.τ).loc Cert.KernelIdeal.main_arg0)

/-- Where the mask is set the reference's value of the argument is the kernel's result. -/
theorem settled_eq (hOn : Cert.On_settled.Facts) (m : (ℓ : Loc Cert.KernelIdeal.nD Cert.KernelIdeal.τ Cert.KernelIdeal.sig) → Buf (Elt Ideal) ℓ)
    (c : Dev Cert.KernelIdeal.nD) (i : (shape2 64 32768).Idx) (h : Cert.On_settled.fn (F := Ideal) (kernelIn m c) i = 1#1) :
    mulf (Tsallis.parts Tsallis.shapes (kernelIn m c)) (Tsallis.parts Tsallis.shapes (kernelIn m c)) i = kernelOut m c i := by
  obtain ⟨R, j, rfl⟩ : ∃ R j, i = ix2 R j := ⟨i 0, i 1, eq_ix2 i⟩
  choose x hx using Cert.On_settled.real_of_fn (kernelIn m c) R j h
  obtain ⟨μ, h1, h2⟩ := row_max x
  have hz : ∀ k, (x k - μ) * (1 / 2) ≤ 0 := fun k => by have := h2 k; linarith
  obtain ⟨τ, hm, hl, hu, hq⟩ := Tsallis.parts_coe Tsallis.shapes (kernelIn m c) R x μ hx h1 h2
  have e := Tsallis.root_unique hz (Tsallis.search_ge _ 8) (Tsallis.search_le _ 8) hl hu hm
    (Cert.On_settled.mass_of_fn (kernelIn m c) R j h x μ hx h1 h2)
  rw [hq j, ← e]
  exact (Cert.KernelIdeal.Row.result_coe m c R x μ hx h1 h2 j).symm

/-- The kernel and the reference end with the same result where the mask is set. -/
theorem algebraic (hOn : Cert.On_settled.Facts) : Cert.algebraic_KernelIdeal_ReferenceIdeal_on_settled := by
  intro m ρ m' ρ' _ hagree
  refine ⟨fun c => kernelOut m c, ?_, ?_⟩
  · exact (θ_run Cert.KernelIdeal.defs _ _).mono (fun r h c => ⟨fun i _ => congrFun (h c).1 i, (h c).2⟩)
      (Cert.KernelIdeal.Value.run_blocks (F := Ideal) m ρ)
  · refine (θ_run Cert.ReferenceIdeal.defs _ _).mono (fun r h c => ⟨fun i hi => ?_, (h c).2⟩)
      (Cert.ReferenceIdeal.Value.run (F := Ideal) m' ρ')
    refine (congrFun (h c).1 i).trans ?_
    have e : Tsallis.given (StableHlo.launchContents m' c) = kernelIn m c := hagree c
    rw [Tsallis.v93_eq, e]
    exact settled_eq hOn m c i hi

/-- On finite arguments the kernel's result meets the residual bound. -/
theorem holds (hPre : Cert.Pre_finite.Facts) (hPost : Cert.Post_within_residual.Facts) :
    Cert.holds_KernelIdeal_within_residual_pre_finite := by
  intro m ρ hp
  refine (θ_run Cert.KernelIdeal.defs _ _).mono (fun r h c => ⟨(h c).2, ?_⟩) (Cert.KernelIdeal.Value.run_blocks (F := Ideal) m ρ)
  refine (congrArg (Cert.Post_within_residual.fn (F := Ideal) (kernelIn m c)) (h c).1).trans (funext fun i => ?_)
  obtain ⟨R, j, rfl⟩ : ∃ R j, i = ix2 R j := ⟨i 0, i 1, eq_ix2 i⟩
  have hr : ∀ k, ∃ a : ℝ, kernelIn m c (ix2 R k) = (a : EReal) := fun k => Tsallis.real_of_abs_lt _ (congrFun (hp c) (ix2 R k))
  choose x hx using hr
  obtain ⟨μ, h1, h2⟩ := row_max x
  exact Tsallis.bound_row (kernelIn m c) (kernelOut m c) R x μ _ hx h1 h2 (Tsallis.search_ge _ 8) (Tsallis.search_le _ 8)
    (fun k => Cert.KernelIdeal.Row.result_coe m c R x μ hx h1 h2 k) j

/-- Everything the certificate claims. -/
theorem claim : Cert.Claim :=
  ⟨Cert.Kernel.Gen.facts, Cert.KernelIdeal.Gen.facts, Cert.ReferenceIdeal.Gen.facts, pre_facts, Tsallis.bound, on_facts,
    fun m ρ _ => Cert.Kernel.Gen.frame m ρ, fun m ρ _ => Cert.KernelIdeal.Gen.frame m ρ, fun m ρ _ => Cert.KernelIdeal.Gen.frame m ρ,
    frame_reference, trivial, algebraic on_facts, holds pre_facts Tsallis.bound⟩

end Cert.Proof

end
